-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x3x512x512 : Shape := ⟨4, ![64, 3, 512, 512]⟩
abbrev S64x3x262144 : Shape := ⟨3, ![64, 3, 262144]⟩
abbrev S64x256x256 : Shape := ⟨3, ![64, 256, 256]⟩
abbrev S64x1x128 : Shape := ⟨3, ![64, 1, 128]⟩
abbrev S64x1x5 : Shape := ⟨3, ![64, 1, 5]⟩
abbrev S64x5 : Shape := ⟨2, ![64, 5]⟩
abbrev S64x3x5 : Shape := ⟨3, ![64, 3, 5]⟩
abbrev S1x3x16384 : Shape := ⟨3, ![1, 3, 16384]⟩
abbrev S1x256x256 : Shape := ⟨3, ![1, 256, 256]⟩
abbrev S3x16384 : Shape := ⟨2, ![3, 16384]⟩
abbrev S1x16384 : Shape := ⟨2, ![1, 16384]⟩
abbrev S1x16379 : Shape := ⟨2, ![1, 16379]⟩
abbrev S1x5 : Shape := ⟨2, ![1, 5]⟩
abbrev S256x16384 : Shape := ⟨2, ![256, 16384]⟩
abbrev S256x256 : Shape := ⟨2, ![256, 256]⟩
abbrev S1x1x128 : Shape := ⟨3, ![1, 1, 128]⟩
abbrev S1 : Shape := ⟨1, ![1]⟩
abbrev S1x1x1 : Shape := ⟨3, ![1, 1, 1]⟩
abbrev S1x128 : Shape := ⟨2, ![1, 128]⟩

abbrev nBuf : Space → Nat
  | .hbm => 8
  | .vmem => 8
  | .smem => 0
  | _ => 0

abbrev bufTy : (tb : Table) → Fin (tcTables nBuf tb) → BufTy
  | .hbm, ⟨0, _⟩ => ⟨S64x3x512x512, .f32⟩
  | .hbm, ⟨1, _⟩ => ⟨S64x3x262144, .f32⟩
  | .hbm, ⟨2, _⟩ => ⟨S64x256x256, .f32⟩
  | .hbm, ⟨3, _⟩ => ⟨S64x1x128, .f32⟩
  | .hbm, ⟨4, _⟩ => ⟨S64x1x5, .f32⟩
  | .hbm, ⟨5, _⟩ => ⟨S64x5, .f32⟩
  | .hbm, ⟨6, _⟩ => ⟨S64x1x5, .f32⟩
  | .hbm, ⟨7, _⟩ => ⟨S64x3x5, .f32⟩
  | .local _ .vmem, ⟨0, _⟩ => ⟨S1x3x16384, .f32⟩
  | .local _ .vmem, ⟨1, _⟩ => ⟨S1x3x16384, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x1x128, .f32⟩
  | .local _ .vmem, ⟨7, _⟩ => ⟨S1x1x128, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_call0_v5 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![64, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S64x3x512x512 : Shape := ⟨4, ![64, 3, 512, 512]⟩
abbrev S_ : Shape := ⟨0, ![]⟩
abbrev S64x1x512x512 : Shape := ⟨4, ![64, 1, 512, 512]⟩
abbrev S64x512x512 : Shape := ⟨3, ![64, 512, 512]⟩
abbrev S64x512x507 : Shape := ⟨3, ![64, 512, 507]⟩
abbrev S64x259584 : Shape := ⟨2, ![64, 259584]⟩
abbrev S64 : Shape := ⟨1, ![64]⟩
abbrev S64x1 : Shape := ⟨2, ![64, 1]⟩
abbrev S64x65536 : Shape := ⟨2, ![64, 65536]⟩
abbrev S64x259584x1 : Shape := ⟨3, ![64, 259584, 1]⟩
abbrev S64x259584x2 : Shape := ⟨3, ![64, 259584, 2]⟩
abbrev S64x256x256 : Shape := ⟨3, ![64, 256, 256]⟩
abbrev S64x1x1 : Shape := ⟨3, ![64, 1, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S1x256x1 : Shape := ⟨3, ![1, 256, 1]⟩
abbrev S1x1x256 : Shape := ⟨3, ![1, 1, 256]⟩
abbrev S64x256x1 : Shape := ⟨3, ![64, 256, 1]⟩
abbrev S64x1x256 : Shape := ⟨3, ![64, 1, 256]⟩
abbrev S64x5 : Shape := ⟨2, ![64, 5]⟩
abbrev S64x1x5 : Shape := ⟨3, ![64, 1, 5]⟩
abbrev S64x3x5 : Shape := ⟨3, ![64, 3, 5]⟩

abbrev nBuf : Space → Nat
  | .hbm => 188
  | .vmem => 0
  | .smem => 0
  | _ => 0

abbrev hbmTy0_0 (i : Nat) : BufTy := match i % 128 with
  | 0 => ⟨S64x3x512x512, .f32⟩
  | 1 => ⟨S_, .f32⟩
  | 2 => ⟨S64x3x512x512, .f32⟩
  | 3 => ⟨S64x3x512x512, .f32⟩
  | 4 => ⟨S64x3x512x512, .f32⟩
  | 5 => ⟨S_, .f32⟩
  | 6 => ⟨S_, .f32⟩
  | 7 => ⟨S_, .f32⟩
  | 8 => ⟨S64x3x512x512, .f32⟩
  | 9 => ⟨S64x3x512x512, .f32⟩
  | 10 => ⟨S_, .f32⟩
  | 11 => ⟨S64x3x512x512, .f32⟩
  | 12 => ⟨S64x3x512x512, .f32⟩
  | 13 => ⟨S64x1x512x512, .f32⟩
  | 14 => ⟨S64x512x512, .f32⟩
  | 15 => ⟨S_, .f32⟩
  | 16 => ⟨S64x512x512, .f32⟩
  | 17 => ⟨S64x512x512, .f32⟩
  | 18 => ⟨S64x1x512x512, .f32⟩
  | 19 => ⟨S64x512x512, .f32⟩
  | 20 => ⟨S_, .f32⟩
  | 21 => ⟨S64x512x512, .f32⟩
  | 22 => ⟨S64x512x512, .f32⟩
  | 23 => ⟨S64x512x512, .f32⟩
  | 24 => ⟨S64x1x512x512, .f32⟩
  | 25 => ⟨S64x512x512, .f32⟩
  | 26 => ⟨S_, .f32⟩
  | 27 => ⟨S64x512x512, .f32⟩
  | 28 => ⟨S64x512x512, .f32⟩
  | 29 => ⟨S64x512x512, .f32⟩
  | 30 => ⟨S64x512x512, .f32⟩
  | 31 => ⟨S_, .f32⟩
  | 32 => ⟨S_, .f32⟩
  | 33 => ⟨S_, .f32⟩
  | 34 => ⟨S64x512x512, .f32⟩
  | 35 => ⟨S64x512x512, .f32⟩
  | 36 => ⟨S_, .f32⟩
  | 37 => ⟨S64x512x512, .f32⟩
  | 38 => ⟨S64x512x512, .f32⟩
  | 39 => ⟨S64x512x512, .i32⟩
  | 40 => ⟨S64x512x507, .i32⟩
  | 41 => ⟨S64x512x507, .i32⟩
  | 42 => ⟨S_, .i32⟩
  | 43 => ⟨S64x512x507, .i32⟩
  | 44 => ⟨S64x512x507, .i32⟩
  | 45 => ⟨S64x512x507, .i32⟩
  | 46 => ⟨S64x259584, .i32⟩
  | 47 => ⟨S64, .i32⟩
  | 48 => ⟨S64x1, .i32⟩
  | 49 => ⟨S_, .f32⟩
  | 50 => ⟨S64x65536, .f32⟩
  | 51 => ⟨S_, .i32⟩
  | 52 => ⟨S64x1, .i32⟩
  | 53 => ⟨S64x1, .i1⟩
  | 54 => ⟨S_, .i32⟩
  | 55 => ⟨S64x1, .i32⟩
  | 56 => ⟨S64x1, .i32⟩
  | 57 => ⟨S64x1, .i32⟩
  | 58 => ⟨S_, .i32⟩
  | 59 => ⟨S64x259584, .i32⟩
  | 60 => ⟨S64x259584, .i1⟩
  | 61 => ⟨S_, .i32⟩
  | 62 => ⟨S64x259584, .i32⟩
  | 63 => ⟨S64x259584, .i32⟩
  | 64 => ⟨S64x259584, .i32⟩
  | 65 => ⟨S64x259584, .i32⟩
  | 66 => ⟨S64x259584x1, .i32⟩
  | 67 => ⟨S64x259584x1, .i32⟩
  | 68 => ⟨S64x259584x2, .i32⟩
  | 69 => ⟨S_, .f32⟩
  | 70 => ⟨S64x259584, .f32⟩
  | 71 => ⟨S64x65536, .f32⟩
  | 72 => ⟨S64x256x256, .f32⟩
  | 73 => ⟨S64x256x256, .f32⟩
  | 74 => ⟨S64x256x256, .f32⟩
  | 75 => ⟨S_, .f32⟩
  | 76 => ⟨S64, .f32⟩
  | 77 => ⟨S64x1x1, .f32⟩
  | 78 => ⟨S64x256x256, .f32⟩
  | 79 => ⟨S64x256x256, .f32⟩
  | 80 => ⟨S256, .f32⟩
  | 81 => ⟨S256x1, .f32⟩
  | 82 => ⟨S1x256, .f32⟩
  | 83 => ⟨S256x256, .f32⟩
  | 84 => ⟨S256x256, .f32⟩
  | 85 => ⟨S256x256, .f32⟩
  | 86 => ⟨S256x256, .f32⟩
  | 87 => ⟨S1x256x256, .f32⟩
  | 88 => ⟨S64x256x256, .f32⟩
  | 89 => ⟨S64x256x256, .f32⟩
  | 90 => ⟨S_, .f32⟩
  | 91 => ⟨S64, .f32⟩
  | 92 => ⟨S256x256, .f32⟩
  | 93 => ⟨S1x256x256, .f32⟩
  | 94 => ⟨S64x256x256, .f32⟩
  | 95 => ⟨S64x256x256, .f32⟩
  | 96 => ⟨S_, .f32⟩
  | 97 => ⟨S64, .f32⟩
  | 98 => ⟨S256x256, .f32⟩
  | 99 => ⟨S_, .f32⟩
  | 100 => ⟨S256x256, .f32⟩
  | 101 => ⟨S256x256, .f32⟩
  | 102 => ⟨S1x256x256, .f32⟩
  | 103 => ⟨S64x256x256, .f32⟩
  | 104 => ⟨S64x256x256, .f32⟩
  | 105 => ⟨S_, .f32⟩
  | 106 => ⟨S64, .f32⟩
  | 107 => ⟨S64x256x256, .f32⟩
  | 108 => ⟨S_, .f32⟩
  | 109 => ⟨S64, .f32⟩
  | 110 => ⟨S64, .f32⟩
  | 111 => ⟨S1x256x1, .f32⟩
  | 112 => ⟨S64x256x256, .f32⟩
  | 113 => ⟨S64x256x256, .f32⟩
  | 114 => ⟨S_, .f32⟩
  | 115 => ⟨S64, .f32⟩
  | 116 => ⟨S1x1x256, .f32⟩
  | 117 => ⟨S64x256x256, .f32⟩
  | 118 => ⟨S64x256x256, .f32⟩
  | 119 => ⟨S_, .f32⟩
  | 120 => ⟨S64, .f32⟩
  | 121 => ⟨S1x256x1, .f32⟩
  | 122 => ⟨S64x1x1, .f32⟩
  | 123 => ⟨S64x256x1, .f32⟩
  | 124 => ⟨S64x256x1, .f32⟩
  | 125 => ⟨S64x256x1, .f32⟩
  | 126 => ⟨S1x1x256, .f32⟩
  | 127 => ⟨S64x1x1, .f32⟩
  | _ => ⟨S64x3x512x512, .f32⟩

abbrev hbmTy0_1 (i : Nat) : BufTy := match i % 128 with
  | 0 => ⟨S64x1x256, .f32⟩
  | 1 => ⟨S64x1x256, .f32⟩
  | 2 => ⟨S64x1x256, .f32⟩
  | 3 => ⟨S64x256x256, .f32⟩
  | 4 => ⟨S64x256x256, .f32⟩
  | 5 => ⟨S64x256x256, .f32⟩
  | 6 => ⟨S64x256x256, .f32⟩
  | 7 => ⟨S_, .f32⟩
  | 8 => ⟨S64, .f32⟩
  | 9 => ⟨S64x256x256, .f32⟩
  | 10 => ⟨S64x256x256, .f32⟩
  | 11 => ⟨S64x256x256, .f32⟩
  | 12 => ⟨S64x256x256, .f32⟩
  | 13 => ⟨S_, .f32⟩
  | 14 => ⟨S64, .f32⟩
  | 15 => ⟨S64x256x256, .f32⟩
  | 16 => ⟨S64x256x256, .f32⟩
  | 17 => ⟨S64x256x256, .f32⟩
  | 18 => ⟨S64x256x256, .f32⟩
  | 19 => ⟨S_, .f32⟩
  | 20 => ⟨S64, .f32⟩
  | 21 => ⟨S64, .f32⟩
  | 22 => ⟨S64, .f32⟩
  | 23 => ⟨S_, .f32⟩
  | 24 => ⟨S64, .f32⟩
  | 25 => ⟨S64, .i1⟩
  | 26 => ⟨S_, .f32⟩
  | 27 => ⟨S64, .f32⟩
  | 28 => ⟨S64, .f32⟩
  | 29 => ⟨S64, .f32⟩
  | 30 => ⟨S_, .f32⟩
  | 31 => ⟨S_, .f32⟩
  | 32 => ⟨S64, .f32⟩
  | 33 => ⟨S64, .f32⟩
  | 34 => ⟨S64x1, .f32⟩
  | 35 => ⟨S64x1, .f32⟩
  | 36 => ⟨S64x1, .f32⟩
  | 37 => ⟨S64x1, .f32⟩
  | 38 => ⟨S64x1, .f32⟩
  | 39 => ⟨S64x5, .f32⟩
  | 40 => ⟨S_, .f32⟩
  | 41 => ⟨S64, .f32⟩
  | 42 => ⟨S64x1, .f32⟩
  | 43 => ⟨S_, .f32⟩
  | 44 => ⟨S64, .f32⟩
  | 45 => ⟨S64x1, .f32⟩
  | 46 => ⟨S64x5, .f32⟩
  | 47 => ⟨S64x5, .f32⟩
  | 48 => ⟨S64x1, .f32⟩
  | 49 => ⟨S64x5, .f32⟩
  | 50 => ⟨S64x5, .f32⟩
  | 51 => ⟨S_, .f32⟩
  | 52 => ⟨S64x5, .f32⟩
  | 53 => ⟨S64x5, .f32⟩
  | 54 => ⟨S64x5, .f32⟩
  | 55 => ⟨S64x1x5, .f32⟩
  | 56 => ⟨S64x3x5, .f32⟩
  | 57 => ⟨S_, .f32⟩
  | 58 => ⟨S64x3x5, .f32⟩
  | 59 => ⟨S64x3x5, .f32⟩
  | _ => ⟨S64x3x512x512, .f32⟩

abbrev hbmTy (i : Nat) : BufTy := match i / 128 with
  | 0 => hbmTy0_0 i
  | 1 => hbmTy0_1 i
  | _ => ⟨S64x3x512x512, .f32⟩

abbrev bufTy : (tb : Table) → Fin (tcTables nBuf tb) → BufTy
  | .hbm, ⟨i, _⟩ => hbmTy i
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_cst_6 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_c_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_13 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_cst_16 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_17 : Ref sig .tc := ⟨.hbm, 105, rfl⟩
abbrev main_v75 : Ref sig .tc := ⟨.hbm, 106, rfl⟩
abbrev main_v76 : Ref sig .tc := ⟨.hbm, 107, rfl⟩
abbrev main_cst_18 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_19 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_20 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_21 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_22 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_23 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_24 : Ref sig .tc := ⟨.hbm, 151, rfl⟩
abbrev main_v114 : Ref sig .tc := ⟨.hbm, 152, rfl⟩
abbrev main_v115 : Ref sig .tc := ⟨.hbm, 153, rfl⟩
abbrev main_cst_25 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_26 : Ref sig .tc := ⟨.hbm, 158, rfl⟩
abbrev main_call3_v0 : Ref sig .tc := ⟨.hbm, 159, rfl⟩
abbrev main_call3_v1 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_27 : Ref sig .tc := ⟨.hbm, 168, rfl⟩
abbrev main_v126 : Ref sig .tc := ⟨.hbm, 169, rfl⟩
abbrev main_v127 : Ref sig .tc := ⟨.hbm, 170, rfl⟩
abbrev main_cst_28 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_29 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_cst_30 : Ref sig .tc := ⟨.hbm, 185, rfl⟩
abbrev main_v140 : Ref sig .tc := ⟨.hbm, 186, rfl⟩
abbrev main_v141 : Ref sig .tc := ⟨.hbm, 187, rfl⟩

abbrev nD : Nat := 1
abbrev τ : Topo := Topo.v7x

variable {F : FTy → Type} [FloatOps F]
-- ==== Proof.KernelRun.lean ====
/-
  The kernel program's run with its result array READ: every weakly fair execution ends with the result array at the
  contents the boundary after the last host stretch gives it, and with the argument unchanged. The launch is set up as
  the program's frame sets it up; only the buffers read at the end differ.
-/
module

public import proofs.«01_k».proof.Proof.Gen.KernelIdeal.Frame

@[expose] public section

set_option maxRecDepth 16384

noncomputable section

namespace Cert.KernelIdeal.Glcm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying the launch rule's implicit arguments takes unfolding plain definitions in a metavariable's type
set_option backward.isDefEq.respectTransparency.types false in
/-- From any memory with zero counters every weakly fair execution of the kernel program ends with its result array
    holding what the last boundary's contents say, and with its argument as launched. -/
theorem run : θ_run defs (onTc (τ := τ) (main (F := F))) ⟨m, fun _ => 0, ρ⟩ (fun r => ∀ c : Dev nD,
      r.2.mem ((c.tc : Thread nD τ).loc main_v0) = W4 m ρ c main_v0
      ∧ r.2.mem ((c.tc : Thread nD τ).loc main_arg0) = m ((c.tc : Thread nD τ).loc main_arg0)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v0 (by decide)), (h c _ (mem_uc main_arg0 (by decide))).trans (W4_main_arg0 m ρ c)⟩)

end Cert.KernelIdeal.Glcm

end
-- ==== Proof.Pixel.lean ====
/-
  The mathematics of one pixel and of one image's table of level pairs, over the extended reals and apart from both
  programs: a pixel's grey level, its range, and the count of horizontally neighbouring level pairs five columns apart.
-/
module

public import Idealize.ShloMosaic.PureOps.Ideal
public import Idealize.ShloMosaic.PureOps.Ideal.Laws
public import Idealize.ShloMosaic.Lib.ValueIdx

@[expose] public section

noncomputable section

namespace Cert.Glcm

open Idealize.ShloMosaic Idealize.ShloMosaic.ValueIdx

/-- The constant 255 both programs scale and clip by. -/
def top : EReal := Ideal.ofBits .f32 0x437F0000#32

/-- The constant 0 both programs clip by. -/
def bot : EReal := Ideal.ofBits .f32 0x00000000#32

/-- The pattern of 255 denotes 255. -/
theorem top_eq : top = ((255 : ℝ) : EReal) := by
  unfold top; simp [Ideal.ofBits, Ideal.ieee]
  norm_num [zpow_neg, ← EReal.coe_mul]

/-- The zero pattern denotes 0. -/
theorem bot_eq : bot = ((0 : ℝ) : EReal) := by
  unfold bot; simp

/-- One channel quantised: the floor of 255 times it, clipped to [0, 255]. -/
def chan (x : EReal) : EReal := min top (max bot (Ideal.liftRound Int.floor (x * top)))

/-- The grey value of a pixel: the weighted channels rounded to the nearest integer (ties to even), clipped to
    [0, 255]. -/
def gray (r g b : EReal) : EReal :=
  min top (max bot (Ideal.liftRound Ideal.roundHalfEven
    (Ideal.ofBits .f32 0x3E991687#32 * chan r + Ideal.ofBits .f32 0x3F1645A2#32 * chan g
      + Ideal.ofBits .f32 0x3DE978D5#32 * chan b)))

/-- The grey level of a pixel, as the 32-bit integer both programs convert it to. -/
def level (r g b : EReal) : BitVec 32 := Ideal.fptosi 32 (gray r g b)

/-- An extended real between 0 and 255 converts to a natural number below 256. -/
theorem fptosi_lt {x : EReal} (h0 : ((0 : ℝ) : EReal) ≤ x) (h1 : x ≤ ((255 : ℝ) : EReal)) :
    (Ideal.fptosi 32 x).toNat < 256 := by
  induction x with
  | bot => exact absurd h0 (by simp)
  | top => exact absurd h1 (by simp)
  | coe r =>
    have a0 : 0 ≤ r := EReal.coe_le_coe_iff.mp h0
    have a1 : r ≤ 255 := EReal.coe_le_coe_iff.mp h1
    have f0 : 0 ≤ ⌊r⌋ := Int.floor_nonneg.mpr a0
    have f1 : ⌊r⌋ ≤ 255 := by
      have : (⌊r⌋ : ℝ) ≤ 255 := (Int.floor_le r).trans a1
      exact_mod_cast this
    rw [Ideal.fptosi, Ideal.toIntClamped_coe, if_pos a0]
    obtain ⟨n, hn⟩ := Int.eq_ofNat_of_zero_le f0
    rw [hn] at f1 ⊢
    have e : max (-((2 ^ (32 - 1) : Nat) : Int)) (min (((2 ^ (32 - 1) : Nat) : Int) - 1) (n : Int)) = (n : Int) := by
      norm_num; omega
    rw [e, BitVec.ofInt_natCast, BitVec.toNat_ofNat]
    omega

/-- A pixel's level is below 256. -/
theorem level_lt (r g b : EReal) : (level r g b).toNat < 256 := by
  refine fptosi_lt ?_ ?_
  · rw [← bot_eq]
    refine le_min ?_ (le_max_left _ _)
    rw [bot_eq, top_eq]; exact EReal.coe_le_coe_iff.mpr (by norm_num)
  · rw [← top_eq]; exact min_le_left _ _

/-- A batch of 64 images, three channels of 512 × 512 pixels. -/
abbrev Img : Type := (⟨4, ![64, 3, 512, 512]⟩ : Shape).Idx → EReal

/-- The grey level of image `b` at row `r`, column `k`. -/
def lev (x : Img) (b : Fin 64) (r k : Fin 512) : BitVec 32 :=
  level (x (ix4 b (0 : Fin 3) r k)) (x (ix4 b (1 : Fin 3) r k)) (x (ix4 b (2 : Fin 3) r k))

theorem lev_lt (x : Img) (b : Fin 64) (r k : Fin 512) : (lev x b r k).toNat < 256 := level_lt _ _ _

/-- Whether the pixel at (`r`, `k`) has level `i` and the one five columns right of it level `j`, as 1 or 0. -/
def hit (x : Img) (b : Fin 64) (i j : Fin 256) (r : Fin 512) (k : Fin 507) : EReal :=
  if (lev x b r ⟨k.val, by omega⟩).toNat = i.val ∧ (lev x b r ⟨k.val + 5, by omega⟩).toNat = j.val then 1 else 0

/-- The table of image `b`: how many pixels have level `i` with level `j` five columns to the right. -/
def counts (x : Img) (b : Fin 64) (i j : Fin 256) : EReal := ∑ r : Fin 512, ∑ k : Fin 507, hit x b i j r k

end Cert.Glcm

end
-- ==== Proof.Block.lean ====
/-
  What one grid point of the histogram call adds to the table: the block of 32 image rows it reads, its pixels' levels,
  and the product of the two one-hot matrices read as a count of level pairs.
-/
module

public import proofs.«01_k».proof.Proof.Gen.KernelIdeal.Skeleton
public import proofs.«01_k».proof.Proof.Pixel
public import Idealize.ShloMosaic.Lib.Pipeline.Value
public import Idealize.ShloMosaic.Lib.MatmulPlain
public import Idealize.ShloMosaic.Lib.WordCmp

@[expose] public section

set_option maxRecDepth 16384

noncomputable section

namespace Cert.Glcm

open Idealize.ShloMosaic Idealize.ShloMosaic.ValueIdx Idealize.ShloMosaic.WordCmp
open Cert.KernelIdeal Cert.KernelIdeal.Gen

/-- The level of pixel `p` of a block of 32 rows laid out row after row. -/
def blev (v : Vec Ideal S1x3x16384 .f32) (p : Fin 16384) : BitVec 32 :=
  level (v (ix3 (0 : Fin 1) (0 : Fin 3) p)) (v (ix3 (0 : Fin 1) (1 : Fin 3) p)) (v (ix3 (0 : Fin 1) (2 : Fin 3) p))

theorem blev_lt (v : Vec Ideal S1x3x16384 .f32) (p : Fin 16384) : (blev v p).toNat < 256 := level_lt _ _ _

/-- The block without its leading unit axis. -/
theorem block_rows (v : Vec Ideal S1x3x16384 .f32) (ch : Fin 3) (p : Fin 16384) :
    shapeCast S3x16384 v shapeCasts_S1x3x16384_S3x16384 (ix2 ch p) = v (ix3 (0 : Fin 1) ch p) := by
  refine shapeCast_apply v _ _ _ ?_
  rw [Shape.rowMajor_val_three, Shape.rowMajor_val_two]
  show ((0 * 3 + ch.val) * 16384 + p.val : Nat) = ch.val * 16384 + p.val
  omega

/-- The kernel's integer grey level of pixel `p`. -/
theorem k0_pay3_apply (v : Vec Ideal S1x3x16384 .f32) (p : Fin 16384) :
    k0_pay3 v (ix2 (0 : Fin 1) p) = blev v p := by
  have row (ch : Fin 3) (x : FVec Ideal S3x16384 .f32) (h : S3x16384.Slices ![ch.val, 0] S1x16384) :
      extractStridedSlice S1x16384 ![ch.val, 0] x h (ix2 (0 : Fin 1) p) = x (ix2 ch p) :=
    extractStridedSlice_apply _ x h _ _ (fun a => match a with
      | ⟨0, _⟩ => rfl
      | ⟨1, _⟩ => (Nat.zero_add p.val).symm)
  have r0 := fun x => row 0 x slices_S3x16384_o0_0_S1x16384
  have r1 := fun x => row 1 x slices_S3x16384_o1_0_S1x16384
  have r2 := fun x => row 2 x slices_S3x16384_o2_0_S1x16384
  simp only [Fin.val_zero, Fin.val_one, Fin.val_two] at r0 r1 r2
  unfold k0_pay3 blev level gray chan
  rw [← block_rows v 0 p, ← block_rows v 1 p, ← block_rows v 2 p]
  simp only [fptosi, minimumf, maximumf, broadcast, roundeven, addf, mulf, floor, r0, r1, r2]
  rfl

/-- The signed remainder by 512 of a small natural. -/
theorem remsi_512 (p : Fin 16384) : IntOp.remsi .vector (BitVec.ofNat 32 p.val) 512#32 = BitVec.ofNat 32 (p.val % 512) := by
  have hc : ¬ IntOp.SDivCorner (BitVec.ofNat 32 p.val) 512#32 := by
    rintro (h | ⟨_, h⟩) <;> exact absurd h (by decide)
  unfold IntOp.remsi
  rw [if_neg hc]
  have hm : (BitVec.ofNat 32 p.val).msb = false := by
    rw [BitVec.msb_eq_false_iff_two_mul_lt]; rw [BitVec.toNat_ofNat]; have := p.isLt; omega
  rw [BitVec.srem_eq, hm]
  have h2 : (512#32).msb = false := by decide
  rw [h2]
  apply BitVec.eq_of_toNat_eq
  show ((BitVec.ofNat 32 p.val) % 512#32).toNat = _
  rw [BitVec.toNat_umod, BitVec.toNat_ofNat, BitVec.toNat_ofNat, BitVec.toNat_ofNat, Nat.mod_eq_of_lt (a := 512) (by decide)]
  have := p.isLt
  omega

/-- The left level of pixel `p`: −1 in the last five columns of a row, where no neighbour lies. -/
theorem k0_pay4_apply (v : Vec Ideal S1x3x16384 .f32) (p : Fin 16384) :
    k0_pay4 v (ix2 (0 : Fin 1) p) = if p.val % 512 < 507 then blev v p else 4294967295#32 := by
  rw [← k0_pay3_apply]
  unfold k0_pay4
  show Scalar.select (IntOp.cmpi .slt (IntOp.remsi .vector (iota .tc S1x16384 32 [1] iota_S1x16384_d1_w32 (ix2 (0 : Fin 1) p)) 512#32) 507#32) _ _ = _
  rw [iota_single_apply]
  show Scalar.select (IntOp.cmpi .slt (IntOp.remsi .vector (BitVec.ofNat 32 p.val) 512#32) 507#32) (k0_pay3 v (ix2 (0 : Fin 1) p)) (4294967295#32) = _
  rw [remsi_512, cmpi_slt_ofNat (by have := p.isLt; omega) (by decide)]
  by_cases h : p.val % 512 < 507
  · rw [if_pos h, decide_eq_true h]; rfl
  · rw [if_neg h, decide_eq_false h]; rfl

/-- The right level of pixel `p`: the level five pixels on, zero past the block's end. -/
theorem k0_pay5_apply (v : Vec Ideal S1x3x16384 .f32) (p : Fin 16384) (h : p.val + 5 < 16384) :
    k0_pay5 v (ix2 (0 : Fin 1) p) = blev v ⟨p.val + 5, h⟩ := by
  unfold k0_pay5
  refine (concatenate_pair_apply_left (s₁ := S1x16379) (s₂ := S1x5) (1 : Fin 2) _ _ _ (ix2 (0 : Fin 1) p) rfl
    (ix2 (0 : Fin 1) (⟨p.val, by omega⟩ : Fin 16379)) (fun b => match b with | ⟨0, _⟩ => rfl | ⟨1, _⟩ => rfl)).trans ?_
  rw [← k0_pay3_apply]
  exact extractStridedSlice_apply _ _ _ _ _ (fun a => match a with
      | ⟨0, _⟩ => rfl
      | ⟨1, _⟩ => Nat.add_comm p.val 5)

/-- A widened comparison bit converted to a float is 1 or 0. -/
theorem oneHot (w u : BitVec 32) :
    FloatOps.sitofp (F := Ideal) .f32 ((IntOp.cmpi .eq w u).setWidth 32) = if w = u then (1 : EReal) else 0 := by
  rw [cmpi_eq_eq]
  by_cases h : w = u
  · rw [if_pos h, decide_eq_true h]
    show (((BitVec.setWidth 32 (BitVec.ofBool true)).toInt : ℝ) : EReal) = 1
    have : (BitVec.setWidth 32 (BitVec.ofBool true)).toInt = 1 := by decide
    rw [this]; norm_num
  · rw [if_neg h, decide_eq_false h]
    show (((BitVec.setWidth 32 (BitVec.ofBool false)).toInt : ℝ) : EReal) = 0
    have : (BitVec.setWidth 32 (BitVec.ofBool false)).toInt = 0 := by decide
    rw [this]; norm_num

/-- The table after one grid point: the table before plus, over the block's pixels, the product of the two one-hot
    entries. -/
theorem k0_pay1_apply (a b : IVec S1x16384 32) (old : Vec Ideal S1x256x256 .f32) (i j : Fin 256) :
    k0_pay1 a b (iota .tc S256x16384 32 [0] iota_S256x16384_d0_w32) old (ix3 (0 : Fin 1) i j)
      = old (ix3 (0 : Fin 1) i j) + ∑ p : Fin 16384,
        (if a (ix2 (0 : Fin 1) p) = BitVec.ofNat 32 i.val then (1 : EReal) else 0)
          * (if b (ix2 (0 : Fin 1) p) = BitVec.ofNat 32 j.val then (1 : EReal) else 0) := by
  unfold k0_pay1
  refine (shapeCast_apply _ _ (ix3 (0 : Fin 1) i j) (ix2 i j) ?_).trans ?_
  · rw [Shape.rowMajor_val_three, Shape.rowMajor_val_two]
    show (i.val * 256 + j.val : Nat) = (0 * 256 + i.val) * 256 + j.val
    omega
  refine congrArg₂ (· + ·) ?_ ?_
  · refine shapeCast_apply _ _ _ _ ?_
    rw [Shape.rowMajor_val_three, Shape.rowMajor_val_two]
    show ((0 * 256 + i.val) * 256 + j.val : Nat) = i.val * 256 + j.val
    omega
  · refine (Ideal.matmul_transposedRhs_apply (M := 256) (K := 16384) (N := 256) none _ _ _ i j).trans ?_
    have hz : constant (F := Ideal) S256x256 .f32 0x00000000#32 (ix2 i j) = 0 := Ideal.ofBits_zero_f32
    rw [hz, zero_add]
    have hot (x : IVec S1x16384 32) (l : Fin 256) (p : Fin 16384) :
        FloatOps.sitofp (F := Ideal) .f32 ((IntOp.cmpi .eq (broadcastTo S256x16384 x broadcasts_S1x16384_S256x16384 (ix2 l p))
            (iota .tc S256x16384 32 [0] iota_S256x16384_d0_w32 (ix2 l p))).setWidth 32)
          = if x (ix2 (0 : Fin 1) p) = BitVec.ofNat 32 l.val then (1 : EReal) else 0 := by
      rw [oneHot, iota_single_apply, broadcastTo_apply x _ (ix2 l p) (ix2 (0 : Fin 1) p)
        (fun a => match a with | ⟨0, _⟩ => rfl | ⟨1, _⟩ => rfl)]
    exact Finset.sum_congr rfl fun p _ => congrArg₂ (· * ·) (hot a i p) (hot b j p)

/-- A sum over a block's 16384 pixels by its 32 rows of 512 columns. -/
theorem sum_rows {R C N : Nat} (hN : R * C = N) (f : Fin N → EReal) :
    ∑ p, f p = ∑ r : Fin R, ∑ k : Fin C, f ⟨r.val * C + k.val, by
      have h1 : r.val * C + C ≤ R * C := by rw [← Nat.succ_mul]; exact Nat.mul_le_mul_right _ r.isLt
      have := k.isLt; omega⟩ := by
  subst hN
  rw [← Equiv.sum_comp finProdFinEquiv f, Fintype.sum_prod_type]
  refine Finset.sum_congr rfl fun r _ => Finset.sum_congr rfl fun k _ => congrArg f (Fin.ext ?_)
  show k.val + C * r.val = r.val * C + k.val
  rw [Nat.mul_comm, Nat.add_comm]

/-- Whether the block's pixel in row `r`, column `k` has level `i` and the one five columns on level `j`. -/
def bhit (v : Vec Ideal S1x3x16384 .f32) (i j : Fin 256) (r : Fin 32) (k : Fin 507) : EReal :=
  if (blev v ⟨r.val * 512 + k.val, by omega⟩).toNat = i.val
      ∧ (blev v ⟨r.val * 512 + k.val + 5, by omega⟩).toNat = j.val then 1 else 0

theorem eq_ofNat_iff (w : BitVec 32) (l : Fin 256) : w = BitVec.ofNat 32 l.val ↔ w.toNat = l.val := by
  have e : (BitVec.ofNat 32 l.val).toNat = l.val := by rw [BitVec.toNat_ofNat]; have := l.isLt; omega
  exact ⟨fun h => by rw [h, e], fun h => BitVec.eq_of_toNat_eq (by rw [h, e])⟩

/-- The increment of one grid point counts the block's level pairs. -/
theorem k0_sum (v : Vec Ideal S1x3x16384 .f32) (i j : Fin 256) :
    (∑ p : Fin 16384, (if k0_pay4 v (ix2 (0 : Fin 1) p) = BitVec.ofNat 32 i.val then (1 : EReal) else 0)
        * (if k0_pay5 v (ix2 (0 : Fin 1) p) = BitVec.ofNat 32 j.val then (1 : EReal) else 0))
      = ∑ r : Fin 32, ∑ k : Fin 507, bhit v i j r k := by
  rw [sum_rows (R := 32) (C := 512) rfl]
  refine Finset.sum_congr rfl fun r _ => ?_
  refine (Fin.sum_univ_add (a := 507) (b := 5) _).trans ?_
  rw [Finset.sum_eq_zero (s := (Finset.univ : Finset (Fin 5))), add_zero]
  · refine Finset.sum_congr rfl fun k _ => ?_
    have hm : (r.val * 512 + k.val) % 512 < 507 := by omega
    simp only [Fin.val_castAdd]
    have e4 := k0_pay4_apply v ⟨r.val * 512 + k.val, by omega⟩
    rw [if_pos hm] at e4
    have e5 := k0_pay5_apply v ⟨r.val * 512 + k.val, by omega⟩ (by show r.val * 512 + k.val + 5 < 16384; omega)
    simp only [e4, e5, eq_ofNat_iff, bhit]
    rw [ite_and]
    split <;> simp
  · intro k _
    simp only [Fin.val_natAdd]
    have hm : ¬ (r.val * 512 + (507 + k.val)) % 512 < 507 := by omega
    have e4 := k0_pay4_apply v ⟨r.val * 512 + (507 + k.val), by omega⟩
    rw [if_neg hm] at e4
    have : ¬ (4294967295#32 = BitVec.ofNat 32 i.val) := by
      rw [eq_ofNat_iff]
      show ¬ (4294967295 = i.val)
      omega
    simp only [e4, if_neg this, zero_mul]

/-- One grid point's table: the table before plus the count of the block's level pairs. -/
theorem block_step (v : Vec Ideal S1x3x16384 .f32) (old : Vec Ideal S1x256x256 .f32) (i j : Fin 256) :
    k0_pay1 (k0_pay4 v) (k0_pay5 v) (iota .tc S256x16384 32 [0] iota_S256x16384_d0_w32) old (ix3 (0 : Fin 1) i j)
      = old (ix3 (0 : Fin 1) i j) + ∑ r : Fin 32, ∑ k : Fin 507, bhit v i j r k := by
  rw [k0_pay1_apply, k0_sum]

end Cert.Glcm

end
-- ==== Proof.RefTable.lean ====
/-
  The reference's table: its pixels' grey levels, the flat position of each level pair, and the scatter-add that counts
  the pairs of every image.
-/
module

public import proofs.«01_k».proof.Proof.Block
public import proofs.«01_k».proof.Proof.Gen.ReferenceIdeal.Read
public import Idealize.ShloMosaic.Lib.Routing.OpsPair

@[expose] public section

set_option maxRecDepth 16384

noncomputable section

namespace Cert.Glcm

open Idealize.ShloMosaic Idealize.ShloMosaic.ValueIdx Idealize.ShloMosaic.WordCmp
open Cert.ReferenceIdeal Cert.ReferenceIdeal.Gen Cert.ReferenceIdeal.Read

variable (x : Img)

/-- The pattern of 1 denotes 1. -/
theorem one_bits : Ideal.ofBits .f32 0x3F800000#32 = (1 : EReal) := by
  simp [Ideal.ofBits, Ideal.ieee]
  norm_num [zpow_neg, ← EReal.coe_mul]

/-- The quantised channels. -/
theorem ref_chan (i : (⟨4, ![64, 3, 512, 512]⟩ : Shape).Idx) : val_main_v3 (F := Ideal) x i = chan (x i) := by
  rw [val_main_v3_apply, val_main_call0_v4_apply, val_main_call0_v2_apply, val_main_call0_v1_apply, val_main_v2_apply,
    val_main_v1_apply, val_main_v0_apply]
  rfl

/-- One channel of an array of images. -/
theorem channel (y : Img) (ch : Fin 3) (h : S64x3x512x512.Slices ![0, ch.val, 0, 0] S64x1x512x512)
    (b : Fin 64) (r k : Fin 512) :
    shapeCast S64x512x512 (extractStridedSlice S64x1x512x512 ![0, ch.val, 0, 0] y h) shapeCasts_S64x1x512x512_S64x512x512
      (ix3 b r k) = y (ix4 b ch r k) := by
  refine (shapeCast_apply _ _ _ (ix4 b (0 : Fin 1) r k) ?_).trans
    (extractStridedSlice_apply _ y h _ _ (fun a => match a with
      | ⟨0, _⟩ => (Nat.zero_add b.val).symm
      | ⟨1, _⟩ => rfl
      | ⟨2, _⟩ => (Nat.zero_add r.val).symm
      | ⟨3, _⟩ => (Nat.zero_add k.val).symm))
  rw [Shape.rowMajor_val_four, Shape.rowMajor_val_three]
  show (((b.val * 1 + 0) * 512 + r.val) * 512 + k.val : Nat) = (b.val * 512 + r.val) * 512 + k.val
  omega

theorem ref_red (b : Fin 64) (r k : Fin 512) : val_main_v5 (F := Ideal) x (ix3 b r k) = chan (x (ix4 b (0 : Fin 3) r k)) :=
  (channel (val_main_v3 (F := Ideal) x) 0 slices_S64x3x512x512_S64x1x512x512_0_0_0_0 b r k).trans (ref_chan x _)

theorem ref_green (b : Fin 64) (r k : Fin 512) : val_main_v9 (F := Ideal) x (ix3 b r k) = chan (x (ix4 b (1 : Fin 3) r k)) :=
  (channel (val_main_v3 (F := Ideal) x) 1 slices_S64x3x512x512_S64x1x512x512_0_1_0_0 b r k).trans (ref_chan x _)

theorem ref_blue (b : Fin 64) (r k : Fin 512) : val_main_v14 (F := Ideal) x (ix3 b r k) = chan (x (ix4 b (2 : Fin 3) r k)) :=
  (channel (val_main_v3 (F := Ideal) x) 2 slices_S64x3x512x512_S64x1x512x512_0_2_0_0 b r k).trans (ref_chan x _)

/-- The integer grey levels. -/
theorem ref_lev (b : Fin 64) (r k : Fin 512) : val_main_v20 (F := Ideal) x (ix3 b r k) = lev x b r k := by
  rw [val_main_v20_apply, val_main_v19_apply, val_main_call2_v4_apply, val_main_call2_v2_apply, val_main_call2_v1_apply,
    val_main_v18_apply, val_main_v17_apply, val_main_v12_apply, val_main_v7_apply, val_main_v11_apply, val_main_v16_apply,
    val_main_v6_apply, val_main_v10_apply, val_main_v15_apply, ref_red, ref_green, ref_blue]
  rfl

/-- The flat position of the level pair at row `r`, column `k`: 256 times the level plus the level five columns on. -/
theorem ref_pair (b : Fin 64) (r : Fin 512) (k : Fin 507) (q : Fin 259584) (hq : q.val = r.val * 507 + k.val) :
    (val_main_v26 (F := Ideal) x (ix2 b q)).toNat
      = (lev x b r ⟨k.val, by omega⟩).toNat * 256 + (lev x b r ⟨k.val + 5, by omega⟩).toNat := by
  have e0 : idx_main_v26 (ix2 b q) = ix3 b r k := by
    funext a
    apply Fin.ext
    match a with
    | ⟨0, _⟩ => show (b.val * 259584 + q.val) / 259584 = b.val; omega
    | ⟨1, _⟩ => show (b.val * 259584 + q.val) / 507 % 512 = r.val; omega
    | ⟨2, _⟩ => show (b.val * 259584 + q.val) % 507 = k.val; omega
  have e1 : idx_main_v21 (ix3 b r k) = ix3 b r (⟨k.val, by omega⟩ : Fin 512) := by
    funext a
    apply Fin.ext
    match a with
    | ⟨0, _⟩ => rfl
    | ⟨1, _⟩ => rfl
    | ⟨2, _⟩ => rfl
  have e2 : idx_main_v22 (ix3 b r k) = ix3 b r (⟨k.val + 5, by omega⟩ : Fin 512) := by
    funext a
    apply Fin.ext
    match a with
    | ⟨0, _⟩ => rfl
    | ⟨1, _⟩ => rfl
    | ⟨2, _⟩ => exact Nat.add_comm 5 k.val
  have h1 := lev_lt x b r ⟨k.val, by omega⟩
  have h2 := lev_lt x b r ⟨k.val + 5, by omega⟩
  rw [val_main_v26_apply, e0, val_main_v25_apply, val_main_v24_apply, val_main_v21_apply, val_main_v22_apply, e1, e2,
    ref_lev, ref_lev, val_main_v23_apply, val_main_c_apply]
  show (lev x b r _ * 256#32 + lev x b r _).toNat = _
  rw [BitVec.toNat_add, BitVec.toNat_mul, show (256#32).toNat = 256 from rfl]
  omega

/-- It is below 65536. -/
theorem ref_pair_lt (b : Fin 64) (q : Fin 259584) : (val_main_v26 (F := Ideal) x (ix2 b q)).toNat < 65536 := by
  have hq : q.val = (⟨q.val / 507, by omega⟩ : Fin 512).val * 507 + (⟨q.val % 507, by omega⟩ : Fin 507).val := by
    show q.val = q.val / 507 * 507 + q.val % 507
    omega
  rw [ref_pair x b _ _ q hq]
  have h1 := lev_lt x b (⟨q.val / 507, by omega⟩ : Fin 512) ⟨(⟨q.val % 507, by omega⟩ : Fin 507).val, by omega⟩
  have h2 := lev_lt x b (⟨q.val / 507, by omega⟩ : Fin 512) ⟨(⟨q.val % 507, by omega⟩ : Fin 507).val + 5, by omega⟩
  omega

/-- The scatter's first index word is the image's number. -/
theorem ref_row (b : Fin 64) (q : Fin 259584) :
    val_main_v43 (F := Ideal) x (ix3 b q (0 : Fin 2)) = BitVec.ofNat 32 b.val := by
  unfold val_main_v43
  refine (concatenate_pair_apply_left (t := S64x259584x2) (s₁ := S64x259584x1) (s₂ := S64x259584x1) 2 _ _ _ _ rfl (ix3 b q (0 : Fin 1))
    (fun a => match a with | ⟨0, _⟩ => rfl | ⟨1, _⟩ => rfl | ⟨2, _⟩ => rfl)).trans ?_
  rw [val_main_v41_apply, val_main_v40_apply, val_main_v34_apply, val_main_v31_apply, val_main_v28_apply,
    val_main_v27_apply, val_main_v30_apply, val_main_c_8_apply]
  refine Routing.wrap_of_lt _ _ ?_
  show (BitVec.ofNat 32 b.val).toNat < 2 ^ 31
  rw [BitVec.toNat_ofNat]
  omega

/-- The second is the pair's flat position. -/
theorem ref_col (b : Fin 64) (q : Fin 259584) :
    val_main_v43 (F := Ideal) x (ix3 b q (1 : Fin 2)) = val_main_v26 (F := Ideal) x (ix2 b q) := by
  unfold val_main_v43
  refine (concatenate_pair_apply_right (t := S64x259584x2) (s₁ := S64x259584x1) (s₂ := S64x259584x1) 2 _ _ _ _ rfl rfl
    (ix3 b q (0 : Fin 1)) (fun a h => match a with | ⟨0, _⟩ => rfl | ⟨1, _⟩ => rfl | ⟨2, _⟩ => absurd rfl h) rfl).trans ?_
  have e : idx_main_v42 (ix3 b q (0 : Fin 1)) = ix2 b q := by
    funext a
    match a with
    | ⟨0, _⟩ => rfl
    | ⟨1, _⟩ => rfl
  rw [val_main_v42_apply, e, val_main_v39_apply, val_main_v36_apply, val_main_v35_apply, val_main_c_10_apply]
  refine Routing.wrap_of_lt _ _ ?_
  have := ref_pair_lt x b q
  show _ < 2 ^ 31
  omega

/-- Where an update lands: at its image's row and its pair's flat position. -/
theorem ref_lands (a b : Fin 64) (q : Fin 259584) (n : Fin 65536) :
    scatter_S64x65536_S64x259584x2_S64x259584_n_01_01_2.resultIdx? (ix2 a q) (val_main_v43 (F := Ideal) x) = some (ix2 b n)
      ↔ a = b ∧ (val_main_v26 (F := Ideal) x (ix2 a q)).toNat = n.val := by
  refine (Routing.scatter_lands2 _ rfl rfl rfl (val_main_v43 (F := Ideal) x) a q b n).trans ?_
  rw [ref_row, ref_col, toInt_eq_toNat_of_lt_half (by rw [BitVec.toNat_ofNat]; omega),
    toInt_eq_toNat_of_lt_half (by have := ref_pair_lt x a q; omega), BitVec.toNat_ofNat, Fin.ext_iff]
  omega

/-- The scatter-add of ones, read at one place: how many pairs have that flat position. -/
theorem ref_scatter (b : Fin 64) (n : Fin 65536) :
    val_main_v45 (F := Ideal) x (ix2 b n)
      = ∑ q : Fin 259584, if (val_main_v26 (F := Ideal) x (ix2 b q)).toNat = n.val then (1 : EReal) else 0 := by
  have h1 : ∀ i, val_main_v44 (F := Ideal) i = (1 : EReal) := fun i => by
    rw [val_main_v44_apply, val_main_cst_12_apply]
    exact one_bits
  have h0 : val_main_v29 (F := Ideal) (ix2 b n) = (0 : EReal) := by
    rw [val_main_v29_apply, val_main_cst_7_apply]
    exact Ideal.ofBits_zero_f32
  show val_main_v29 (F := Ideal) (ix2 b n) + ∑ j ∈ Finset.univ.filter (fun j =>
      scatter_S64x65536_S64x259584x2_S64x259584_n_01_01_2.resultIdx? j (val_main_v43 (F := Ideal) x) = some (ix2 b n)),
      val_main_v44 (F := Ideal) j = _
  rw [h0, zero_add, Finset.sum_filter, sum_idx2]
  simp only [h1, ref_lands]
  rw [Finset.sum_eq_single b]
  · simp only [true_and]
  · intro a _ hab
    refine Finset.sum_eq_zero fun q _ => if_neg fun h => hab h.1
  · intro h
    exact absurd (Finset.mem_univ b) h

/-- The reference's table is the table of counts. -/
theorem ref_counts (b : Fin 64) (i j : Fin 256) : val_main_v46 (F := Ideal) x (ix3 b i j) = counts x b i j := by
  have e : idx_main_v46 (ix3 b i j) = ix2 b (⟨i.val * 256 + j.val, by omega⟩ : Fin 65536) := by
    funext a
    apply Fin.ext
    match a with
    | ⟨0, _⟩ => show ((b.val * 256 + i.val) * 256 + j.val) / 65536 = b.val; omega
    | ⟨1, _⟩ => show ((b.val * 256 + i.val) * 256 + j.val) % 65536 = i.val * 256 + j.val; omega
  rw [val_main_v46_apply, e, ref_scatter, sum_rows (R := 512) (C := 507) (N := 259584) rfl]
  unfold counts hit
  refine Finset.sum_congr rfl fun r _ => Finset.sum_congr rfl fun k _ => ?_
  rw [ref_pair x b r k _ rfl]
  have h1 := lev_lt x b r ⟨k.val, by omega⟩
  have h2 := lev_lt x b r ⟨k.val + 5, by omega⟩
  refine if_congr ?_ rfl rfl
  show _ = i.val * 256 + j.val ↔ _
  omega

end Cert.Glcm

end
-- ==== Proof.Features.lean ====
/-
  The five texture features of a table of level pairs, over the extended reals and apart from both programs: the table
  made symmetric and normalised, its contrast, dissimilarity, homogeneity, energy and correlation, and the five values
  scaled between their least and greatest and quantised.
-/
module

public import proofs.«01_k».proof.Proof.Pixel

@[expose] public section

noncomputable section

namespace Cert.Glcm

open Idealize.ShloMosaic

/-- A sum over all pairs of levels. -/
def sum2 (f : Fin 256 → Fin 256 → EReal) : EReal := ∑ i : Fin 256, ∑ j : Fin 256, f i j

/-- A level as a number: the integer conversion of its 32-bit word. -/
def lv (i : Fin 256) : EReal := (((BitVec.ofNat 32 i.val).toInt : ℝ) : EReal)

/-- The constant 1. -/
def one : EReal := Ideal.ofBits .f32 0x3F800000#32

/-- The least spread a correlation is computed for. -/
def eps : EReal := Ideal.ofBits .f32 0x26901D7D#32

/-- A table plus its transpose. -/
def sym (T : Fin 256 → Fin 256 → EReal) (i j : Fin 256) : EReal := T i j + T j i

/-- The symmetric table divided by its total. -/
def prob (T : Fin 256 → Fin 256 → EReal) (i j : Fin 256) : EReal := Ideal.div (sym T i j) (sum2 (sym T))

/-- A covariance over a spread, 1 where the spread is below the least one. -/
def ratio (s c : EReal) : EReal := Scalar.select (Ideal.cmp .olt s eps) one (Ideal.div c (max s eps))

/-- The difference of two levels. -/
def gap (i j : Fin 256) : EReal := lv i - lv j

section
variable (p : Fin 256 → Fin 256 → EReal)

/-- Contrast: the mean squared difference. -/
def contrast : EReal := sum2 fun i j => p i j * (gap i j * gap i j)
/-- Dissimilarity: the mean absolute difference. -/
def dissim : EReal := sum2 fun i j => p i j * max (gap i j) (-gap i j)
/-- Homogeneity: the mean of 1 / (1 + squared difference). -/
def homog : EReal := sum2 fun i j => Ideal.div (p i j) (one + gap i j * gap i j)
/-- Energy: the root of the sum of squares. -/
def energy : EReal := Ideal.sqrt (sum2 fun i j => p i j * p i j)
/-- The mean row level. -/
def muRow : EReal := sum2 fun i j => p i j * lv i
/-- The mean column level. -/
def muCol : EReal := sum2 fun i j => p i j * lv j
/-- A row level's deviation from the mean. -/
def devRow (i : Fin 256) : EReal := lv i - muRow p
/-- A column level's deviation from the mean. -/
def devCol (j : Fin 256) : EReal := lv j - muCol p
/-- The row levels' variance. -/
def varRow : EReal := sum2 fun i j => p i j * devRow p i * devRow p i
/-- The column levels' variance. -/
def varCol : EReal := sum2 fun i j => p i j * devCol p j * devCol p j
/-- The covariance. -/
def cov : EReal := sum2 fun i j => p i j * devRow p i * devCol p j
/-- The product of the two standard deviations. -/
def spread : EReal := Ideal.sqrt (varRow p * varCol p)
/-- Correlation, 1 where the spread is below the least one. -/
def corr : EReal := ratio (spread p) (cov p)

/-- The five features in order. -/
def feat : Fin 5 → EReal := ![contrast p, dissim p, homog p, energy p, corr p]
/-- The least of the five. -/
def least : EReal := min (min (min (contrast p) (dissim p)) (min (homog p) (energy p))) (corr p)
/-- The greatest of the five. -/
def most : EReal := max (max (max (contrast p) (dissim p)) (max (homog p) (energy p))) (corr p)
/-- Feature `k` scaled between the least and the greatest, and quantised to 255 steps. -/
def quant (k : Fin 5) : EReal :=
  Ideal.div (Ideal.liftRound Int.floor (Ideal.div (feat p k - least p) (most p - least p) * top)) top

end

/-- What both programs compute for feature `k` of image `b`. -/
def answer (x : Img) (b : Fin 64) (k : Fin 5) : EReal := quant (prob (counts x b)) k

end Cert.Glcm

end
-- ==== Proof.Point.lean ====
/-
  What one grid point leaves in the kernel's staging buffers, as values: the histogram call's two cases (a new image's
  first point, and every later one) and the statistics call's one.
-/
module

public import proofs.«01_k».proof.Proof.Gen.KernelIdeal.Frame
public import proofs.«01_k».proof.Proof.Block

@[expose] public section

set_option maxRecDepth 16384

noncomputable section

namespace Cert.Glcm

open Idealize.ShloMosaic Idealize.ShloMosaic.TcCoe Idealize.ShloMosaic.ValueIdx Idealize.SL.Sem
open Cert.KernelIdeal Cert.KernelIdeal.Gen

variable {F : FTy → Type} [FloatOps F]

/-- The rectangles' offsets are all zero. -/
theorem offsets_zero : (![0, 0, 0] : Fin 3 → Nat) = fun _ => 0 := by
  funext a
  match a with
  | ⟨0, _⟩ => rfl
  | ⟨1, _⟩ => rfl
  | ⟨2, _⟩ => rfl

/-- The row coordinate of every one-hot entry: the level the entry stands for. -/
abbrev levels : IVec S256x16384 32 := iota .tc S256x16384 32 [0] iota_S256x16384_d0_w32

/-- A point that is not an image's first adds its block to what the buffer held. -/
theorem out_later (c : Dev nD) (i : grid0.Coords) (a : Memref sig .tc .vmem S1x3x16384 .f32) (ha : a.IsWhole)
    (o : Memref sig .tc .vmem S1x256x256 .f32) (ho : o.IsWhole) (hc : ¬cond0_0 i)
    (x : Vec F S1x3x16384 .f32) (old : Vec F S1x256x256 .f32) :
    out0_B_1 c i a ha o ho hc x old = k0_pay1 (k0_pay4 x) (k0_pay5 x) levels old := by
  unfold out0_B_1
  rw [View.read_writes_eq_canon _ _ _ (cover0_B_1 c i a ha o ho hc x old)]
  unfold kernelRun0_B
  dsimp only
  sl_unfold_words
  rw [View.canon_unit_zero offsets_zero]
  simp only [View.readAt_eq_ld, ha.read_unread, ho.read_unread, View.ld_unit_zero (S := S1x3x16384) offsets_zero,
    View.ld_unit_zero (S := S1x256x256) offsets_zero]

/-- An image's first point adds its block to the zero table. -/
theorem out_first (c : Dev nD) (i : grid0.Coords) (a : Memref sig .tc .vmem S1x3x16384 .f32) (ha : a.IsWhole)
    (o : Memref sig .tc .vmem S1x256x256 .f32) (ho : o.IsWhole) (hc : cond0_0 i) (x : Vec F S1x3x16384 .f32) :
    out0_A_1 c i a ha o ho hc x = k0_pay1 (k0_pay4 x) (k0_pay5 x) levels k0_pay2 := by
  unfold out0_A_1
  rw [View.read_writes_eq_canon _ _ _ (cover0_A_1 c i a ha o ho hc x)]
  unfold kernelRun0_A
  dsimp only
  sl_unfold_words
  rw [View.canon_cons_unit_zero (S := S1x256x256) offsets_zero, View.readCov_unit_zero (S := S1x256x256) _ offsets_zero]
  simp only [View.readAt_eq_ld, ha.read_unread, View.ld_unit_zero (S := S1x3x16384) offsets_zero]

end Cert.Glcm

end
-- ==== Proof.Table.lean ====
/-
  What the histogram call's result array holds when the call ends: every image's table of level-pair counts. Each image
  is 16 grid points of 32 rows; the point's block is read off the flattened images, the 16 increments add up to the whole
  image's counts, and the last point of each image writes its block of the array.
-/
module

public import proofs.«01_k».proof.Proof.Point
public import proofs.«01_k».proof.Proof.Gen.KernelIdeal.Points

@[expose] public section

set_option maxRecDepth 16384

noncomputable section

namespace Cert.Glcm

open Idealize.ShloMosaic Idealize.ShloMosaic.TcCoe Idealize.ShloMosaic.ValueIdx Idealize.SL.Sem
open Idealize.ShloMosaic.Pipeline (Dat accAt eq_accAt_of_mod accAt_add_apply)
open Cert.KernelIdeal Cert.KernelIdeal.Gen

variable (V : (c : Dev nD) → (b : Ref sig .tc) → Buf (Elt Ideal) ((c : Thread nD τ).loc b))

/-- The histogram call's grid coordinates: the image and the chunk of 32 rows. -/
theorem coords0 (t : Fin cfg0.N) :
    (grid0.coords t 0).val = t.val / 16 ∧ (grid0.coords t 1).val = t.val % 16 := by
  have ht : t.val < 1024 := Nat.lt_of_lt_of_eq t.isLt N_0
  have e0 : (grid0.coords t 0).val = t.val / 16 % 64 := Pipeline.Grid.coords_val t 0 (by decide) rfl
  have e1 : (grid0.coords t 1).val = t.val / 1 % 16 := Pipeline.Grid.coords_val t 1 (by decide) rfl
  omega

/-- The input window's block is the point's image and chunk, -/
theorem index0_0 (t : Fin cfg0.N) :
    win0_0.index t 0 = t.val / 16 ∧ win0_0.index t 1 = 0 ∧ win0_0.index t 2 = t.val % 16 := by
  obtain ⟨e0, e1⟩ := coords0 t
  have ht : t.val < 1024 := Nat.lt_of_lt_of_eq t.isLt N_0
  refine ⟨?_, rfl, ?_⟩
  · show (BitVec.ofNat 32 (grid0.coords t 0).val).toNat = _
    rw [BitVec.toNat_ofNat, e0]; omega
  · show (BitVec.ofNat 32 (grid0.coords t 1).val).toNat = _
    rw [BitVec.toNat_ofNat, e1]; omega

/-- and the output window's the point's image. -/
theorem index0_1 (t : Fin cfg0.N) :
    win0_1.index t 0 = t.val / 16 ∧ win0_1.index t 1 = 0 ∧ win0_1.index t 2 = 0 := by
  obtain ⟨e0, e1⟩ := coords0 t
  have ht : t.val < 1024 := Nat.lt_of_lt_of_eq t.isLt N_0
  refine ⟨?_, rfl, rfl⟩
  show (BitVec.ofNat 32 (grid0.coords t 0).val).toNat = _
  rw [BitVec.toNat_ofNat, e0]; omega

/-- The block a histogram point reads: channel `ch`, pixel `p` of the point's chunk of the point's image. -/
theorem block0_apply (c : Dev nD) (t : Fin cfg0.N) (ch : Fin 3) (p : Fin 16384) (b : Fin 64) (q : Fin 262144)
    (hb : b.val = t.val / 16) (hq : q.val = t.val % 16 * 16384 + p.val) :
    (iblk0 V c 0 t : Vec Ideal S1x3x16384 .f32) (ix3 (0 : Fin 1) ch p) = V c main_call0_v0 (ix3 b ch q) := by
  obtain ⟨e0, e1, e2⟩ := index0_0 t
  unfold iblk0
  rw [View.read_apply]
  show V c main_call0_v0 _ = V c main_call0_v0 _
  congr 1
  funext a
  apply Fin.ext
  match a with
  | ⟨0, _⟩ => show win0_0.index t 0 * 1 + 1 * 0 = b.val; rw [e0]; omega
  | ⟨1, _⟩ => show win0_0.index t 1 * 3 + 1 * ch.val = ch.val; rw [e1]; omega
  | ⟨2, _⟩ => show win0_0.index t 2 * 16384 + 1 * p.val = q.val; rw [e2]; omega

/-- The flattened images, as the histogram call finds them. -/
def Flat (c : Dev nD) (x : Img) : Prop :=
  ∀ (b : Fin 64) (ch : Fin 3) (r k : Fin 512) (q : Fin 262144), q.val = r.val * 512 + k.val →
    V c main_call0_v0 (ix3 b ch q) = x (ix4 b ch r k)

/-- A block's pixel level is the image's. -/
theorem blev_eq {c : Dev nD} {x : Img} (hx : Flat V c x) (t : Fin cfg0.N) (b : Fin 64) (hb : b.val = t.val / 16)
    (p : Fin 16384) (r k : Fin 512) (h : t.val % 16 * 16384 + p.val = r.val * 512 + k.val) :
    blev (iblk0 V c 0 t) p = lev x b r k := by
  have hq : t.val % 16 * 16384 + p.val < 262144 := by have := p.isLt; omega
  have e (ch : Fin 3) := (block0_apply V c t ch p b ⟨_, hq⟩ hb rfl).trans (hx b ch r k ⟨_, hq⟩ h)
  unfold blev lev
  rw [e 0, e 1, e 2]

/-- The block of the point at position `n` (nothing past the grid). -/
def blockAt (c : Dev nD) (n : Nat) : Vec Ideal S1x3x16384 .f32 :=
  if h : n < cfg0.N then iblk0 V c 0 ⟨n, h⟩ else fun _ => 0

/-- What the point at position `n` adds to the table. -/
def gain (c : Dev nD) (n : Nat) (i : S1x256x256.Idx) : EReal :=
  ∑ r : Fin 32, ∑ k : Fin 507, bhit (blockAt V c n) (i 1) (i 2) r k

/-- One grid point read at any index of its table. -/
theorem step_apply (v : Vec Ideal S1x3x16384 .f32) (old : Vec Ideal S1x256x256 .f32) (i : S1x256x256.Idx) :
    k0_pay1 (k0_pay4 v) (k0_pay5 v) levels old i = old i + ∑ r : Fin 32, ∑ k : Fin 507, bhit v (i 1) (i 2) r k := by
  have e : i = ix3 (0 : Fin 1) (i 1 : Fin 256) (i 2 : Fin 256) := by
    refine (eq_ix3 (n0 := 1) (n1 := 256) (n2 := 256) i).trans ?_
    congr 1
    exact Fin.ext (by have := (i 0).isLt; simp at this; simp [this])
  rw [e]
  exact block_step v old _ _

/-- What the staging buffer holds after a point: the gains of its image's points so far. -/
theorem outs_apply (c : Dev nD) (t : Fin cfg0.N) (i : S1x256x256.Idx) :
    outsAt0 V c t.val t.isLt i = ∑ s ∈ Finset.range (t.val % 16 + 1), gain V c (16 * (t.val / 16) + s) i := by
  have ht := t.isLt
  have hh : 16 * (t.val / 16) + t.val % 16 < cfg0.N := by rw [Nat.div_add_mod]; exact ht
  have first (n : Nat) (h : n < cfg0.N) (h0 : n % 16 = 0) : outsAt0 V c n h
      = k0_pay1 (F := Ideal) (k0_pay4 (iblk0 V c 0 ⟨n, h⟩)) (k0_pay5 (iblk0 V c 0 ⟨n, h⟩)) levels (k0_pay2 (F := Ideal)) := by
    rw [outsAt0_A V c ⟨n, h⟩ h0]
    exact out_first ..
  have later (n : Nat) (h : n + 1 < cfg0.N) (h0 : ¬(n + 1) % 16 = 0) : outsAt0 V c (n + 1) h
      = k0_pay1 (F := Ideal) (k0_pay4 (iblk0 V c 0 ⟨n + 1, h⟩)) (k0_pay5 (iblk0 V c 0 ⟨n + 1, h⟩)) levels
          (outsAt0 V c n (Nat.lt_of_succ_lt h)) := by
    rw [outsAt0_B V c ⟨n + 1, h⟩ h0]
    exact out_later ..
  rw [eq_accAt_of_mod (α := Vec Ideal S1x256x256 .f32) (fun n h => outsAt0 V c n h) 16
    (fun n h => k0_pay1 (F := Ideal) (k0_pay4 (iblk0 V c 0 ⟨n, h⟩)) (k0_pay5 (iblk0 V c 0 ⟨n, h⟩)) levels (k0_pay2 (F := Ideal)))
    (fun n h old => k0_pay1 (F := Ideal) (k0_pay4 (iblk0 V c 0 ⟨n, h⟩)) (k0_pay5 (iblk0 V c 0 ⟨n, h⟩)) levels old)
    first later
    (by decide) t.val ht hh]
  rw [accAt_add_apply (ι := S1x256x256.Idx) (β := EReal) _ _ (fun _ => 0) (gain V c) (16 * (t.val / 16)) (t.val % 16) ?_ ?_
    (t.val % 16) le_rfl hh i, zero_add]
  · intro h j
    rw [step_apply]
    unfold gain blockAt
    rw [dif_pos h]
    exact congrArg (· + _) Ideal.ofBits_zero_f32
  · intro n h acc j _ _
    rw [step_apply]
    unfold gain blockAt
    rw [dif_pos h]

/-- A point's gain counts the level pairs of its 32 rows of the image. -/
theorem gain_eq {c : Dev nD} {x : Img} (hx : Flat V c x) (b : Fin 64) (s : Fin 16) (i : S1x256x256.Idx) :
    gain V c (16 * b.val + s.val) i = ∑ r : Fin 32, ∑ k : Fin 507, hit x b (i 1) (i 2) ⟨s.val * 32 + r.val, by omega⟩ k := by
  have hn : 16 * b.val + s.val < cfg0.N := by rw [show cfg0.N = 1024 from N_0]; omega
  unfold gain blockAt
  rw [dif_pos hn]
  refine Finset.sum_congr rfl fun r _ => Finset.sum_congr rfl fun k _ => ?_
  unfold bhit hit
  have hb : b.val = (⟨16 * b.val + s.val, hn⟩ : Fin cfg0.N).val / 16 := by show b.val = (16 * b.val + s.val) / 16; omega
  rw [blev_eq V hx ⟨_, hn⟩ b hb ⟨r.val * 512 + k.val, by omega⟩ ⟨s.val * 32 + r.val, by omega⟩ ⟨k.val, by omega⟩
      (by show (16 * b.val + s.val) % 16 * 16384 + (r.val * 512 + k.val) = (s.val * 32 + r.val) * 512 + k.val; omega),
    blev_eq V hx ⟨_, hn⟩ b hb ⟨r.val * 512 + k.val + 5, by omega⟩ ⟨s.val * 32 + r.val, by omega⟩ ⟨k.val + 5, by omega⟩
      (by show (16 * b.val + s.val) % 16 * 16384 + (r.val * 512 + k.val + 5) = (s.val * 32 + r.val) * 512 + (k.val + 5); omega)]

/-- An image's 16 points together count the whole image. -/
theorem gains_eq {c : Dev nD} {x : Img} (hx : Flat V c x) (b : Fin 64) (i : S1x256x256.Idx) :
    ∑ s ∈ Finset.range 16, gain V c (16 * b.val + s) i = counts x b (i 1) (i 2) := by
  rw [Finset.sum_range]
  unfold counts
  rw [sum_rows (R := 16) (C := 32) (N := 512) rfl]
  exact Finset.sum_congr rfl fun s _ => gain_eq V hx b s i

/-- The array of all images' tables. -/
def tables (x : Img) : (⟨3, ![64, 256, 256]⟩ : Shape).Idx → EReal := fun i => counts x (i 0) (i 1) (i 2)

/-- What the last point of an image writes back is its block of the tables. -/
theorem flushed0 {c : Dev nD} {x : Img} (hx : Flat V c x) (t : Fin cfg0.N) (hf : (cfg0.win 1).flush t = true) :
    (dat0 V c).flushed 1 t = ((cfg0.win 1).blk t).view.read (Elt Ideal) (tables x) := by
  have h15 : t.val % 16 = 15 := (flush0_1 t).mp hf
  have ht : t.val < 1024 := Nat.lt_of_lt_of_eq t.isLt N_0
  obtain ⟨e0, e1, e2⟩ := index0_1 t
  show (cfg0.win 1).cut (grid0.coords t) ((dat0 V c).after 1 t) = _
  rw [after0_1]
  funext y
  rw [View.read_apply]
  show outsAt0 V c t.val t.isLt y = tables x _
  rw [outs_apply, h15]
  refine (gains_eq V hx ⟨t.val / 16, by omega⟩ y).trans ?_
  have y0 : (y 0 : Nat) < 1 := (y 0).isLt
  refine congrArg (fun i => tables x i)
    (a₁ := (ix3 (⟨t.val / 16, by omega⟩ : Fin 64) (y 1) (y 2) : (⟨3, ![64, 256, 256]⟩ : Shape).Idx)) ?_
  funext a
  apply Fin.ext
  match a with
  | ⟨0, _⟩ => show t.val / 16 = win0_1.index t 0 * 1 + 1 * (y 0 : Nat); rw [e0]; omega
  | ⟨1, _⟩ => show (y 1 : Nat) = win0_1.index t 1 * 256 + 1 * (y 1 : Nat); rw [e1]; omega
  | ⟨2, _⟩ => show (y 2 : Nat) = win0_1.index t 2 * 256 + 1 * (y 2 : Nat); rw [e2]; omega

/-- So the histogram call's result array ends holding all images' tables. -/
theorem tables_final {c : Dev nD} {x : Img} (hx : Flat V c x) : (dat0 V c).arrAt 1 cfg0.N = tables x :=
  (dat0 V c).arrAt_eq_of_cover 1 (tables x) (flushed0 V hx) fun i => by
    have h0 : (i 0 : Nat) < 64 := (i 0).isLt
    have h1 : (i 1 : Nat) < 256 := (i 1).isLt
    have h2 : (i 2 : Nat) < 256 := (i 2).isLt
    have hn : 16 * (i 0 : Nat) + 15 < cfg0.N := by rw [show cfg0.N = 1024 from N_0]; omega
    obtain ⟨e0, e1, e2⟩ := index0_1 ⟨_, hn⟩
    dsimp only at e0
    refine ⟨⟨_, hn⟩, (flush0_1 _).mpr (by show (16 * (i 0 : Nat) + 15) % 16 = 15; omega), ?_⟩
    show i ∈ ((View.whole main_call0_v1).slice (win0_1.rect ⟨_, hn⟩)).set
    rw [View.set_slice_whole, Rect.mem_set_unit]
    intro a
    match a with
    | ⟨0, _⟩ =>
      show win0_1.index ⟨_, hn⟩ 0 * 1 ≤ (i 0 : Nat) ∧ (i 0 : Nat) < win0_1.index ⟨_, hn⟩ 0 * 1 + 1
      rw [e0]; omega
    | ⟨1, _⟩ =>
      show win0_1.index ⟨_, hn⟩ 1 * 256 ≤ (i 1 : Nat) ∧ (i 1 : Nat) < win0_1.index ⟨_, hn⟩ 1 * 256 + 256
      rw [e1]; omega
    | ⟨2, _⟩ =>
      show win0_1.index ⟨_, hn⟩ 2 * 256 ≤ (i 2 : Nat) ∧ (i 2 : Nat) < win0_1.index ⟨_, hn⟩ 2 * 256 + 256
      rw [e2]; omega

end Cert.Glcm

end
-- ==== Proof.Totals.lean ====
/-
  The totals the statistics call forms over a table of level pairs: the normalised table, four of its features and the
  two means.
-/
module

public import proofs.«01_k».proof.Proof.Point
public import proofs.«01_k».proof.Proof.Features

@[expose] public section

set_option maxRecDepth 16384

noncomputable section

namespace Cert.Glcm

open Idealize.ShloMosaic Idealize.ShloMosaic.ValueIdx Idealize.ShloMosaic.WordCmp
open Cert.KernelIdeal Cert.KernelIdeal.Gen

/-- A table block by its levels. -/
def tab (v : Vec Ideal S1x256x256 .f32) (i j : Fin 256) : EReal := v (ix3 (0 : Fin 1) i j)

/-- The indices of a table block are the pairs of levels. -/
def pairs : Fin 256 × Fin 256 ≃ S1x256x256.Idx where
  toFun q := ix3 (0 : Fin 1) q.1 q.2
  invFun i := (i 1, i 2)
  left_inv q := rfl
  right_inv i := by
    have h : (i 0 : Nat) < 1 := (i 0).isLt
    funext a
    match a with
    | ⟨0, _⟩ => exact Fin.ext (by show 0 = (i 0 : Nat); omega)
    | ⟨1, _⟩ => rfl
    | ⟨2, _⟩ => rfl

/-- A matrix seen as a block with a leading unit axis. -/
theorem addUnit (x : FVec Ideal S256x256 .f32) (i j : Fin 256) :
    shapeCast S1x256x256 x shapeCasts_S256x256_S1x256x256 (ix3 (0 : Fin 1) i j) = x (ix2 i j) := by
  refine shapeCast_apply x _ _ _ ?_
  rw [Shape.rowMajor_val_three, Shape.rowMajor_val_two]
  show (i.val * 256 + j.val : Nat) = (0 * 256 + i.val) * 256 + j.val
  omega

/-- The scalar total of a block, as the kernel forms it. -/
def totalOf (y : FVec Ideal S1x256x256 .f32) : EReal :=
  extractAt ![0, 0, 0] (shapeCast S1x1x1
    (multiReduction (F := Ideal) .add [1, 2] S1 y 0x00000000#32 reduces_S1x256x256_S1 (.inl rfl) rfl)
    shapeCasts_S1_S1x1x1) inpos_S1x1x1_p0_0_0

/-- It is the sum over all pairs. -/
theorem total3 (y : FVec Ideal S1x256x256 .f32) : totalOf y = sum2 fun i j => y (ix3 (0 : Fin 1) i j) := by
  refine (Ideal.multiReduction_add_total y _ reduces_S1x256x256_S1 (fun b => by match b with | ⟨0, _⟩ => rfl) (.inl rfl) rfl _).trans ?_
  rw [← Equiv.sum_comp pairs, Fintype.sum_prod_type]
  rfl

/-- The same of a matrix given a leading unit axis. -/
theorem total2 (x : FVec Ideal S256x256 .f32) :
    totalOf (shapeCast S1x256x256 x shapeCasts_S256x256_S1x256x256) = sum2 fun i j => x (ix2 i j) := by
  rw [total3]
  exact congrArg sum2 (funext fun i => funext fun j => addUnit x i j)

/-- The block without its unit axis, plus its transpose. -/
def folded (v : Vec Ideal S1x256x256 .f32) : FVec Ideal S256x256 .f32 :=
  addf (F := Ideal) (φ := .f32) (shapeCast S256x256 v shapeCasts_S1x256x256_S256x256)
    (transpose S256x256 [1, 0] (shapeCast S256x256 v shapeCasts_S1x256x256_S256x256) transposes_S256x256_p1_0_S256x256)

/-- It is the symmetric table. -/
theorem folded_apply (v : Vec Ideal S1x256x256 .f32) (i j : Fin 256) : folded v (ix2 i j) = sym (tab v) i j := by
  have e (i j : Fin 256) : shapeCast S256x256 v shapeCasts_S1x256x256_S256x256 (ix2 i j) = tab v i j := by
    refine shapeCast_apply v _ _ _ ?_
    rw [Shape.rowMajor_val_three, Shape.rowMajor_val_two]
    show ((0 * 256 + i.val) * 256 + j.val : Nat) = i.val * 256 + j.val
    omega
  have f := transpose_apply [1, 0] (shapeCast S256x256 v shapeCasts_S1x256x256_S256x256)
    transposes_S256x256_p1_0_S256x256 (ix2 i j) (ix2 j i) (fun a => match a with | ⟨0, _⟩ => rfl | ⟨1, _⟩ => rfl)
  exact congrArg₂ (fun a b : EReal => a + b) (e i j) (f.trans (e j i))

/-- The total of the symmetric table. -/
theorem folded_total (v : Vec Ideal S1x256x256 .f32) :
    totalOf (shapeCast S1x256x256 (folded v) shapeCasts_S256x256_S1x256x256) = sum2 (sym (tab v)) :=
  (total2 (folded v)).trans (congrArg sum2 (funext fun i => funext fun j => folded_apply v i j))

/-- The normalised table is the symmetric table divided by its total. -/
theorem k1_pay2_eq (v : Vec Ideal S1x256x256 .f32) :
    k1_pay2 v = divf (F := Ideal) (φ := .f32) (folded v)
      (broadcast S256x256 (totalOf (shapeCast S1x256x256 (folded v) shapeCasts_S256x256_S1x256x256))) := rfl

/-- The normalised table at a pair. -/
theorem k1_pay2_apply (v : Vec Ideal S1x256x256 .f32) (i j : Fin 256) : k1_pay2 v (ix2 i j) = prob (tab v) i j := by
  rw [k1_pay2_eq, folded_total]
  exact congrArg (fun a : EReal => Ideal.div a (sum2 (sym (tab v)))) (folded_apply v i j)

/-- The row levels, -/
theorem k1_pay3_apply (i j : Fin 256) : k1_pay3 (F := Ideal) (ix2 i j) = lv i := by
  show (((iota .tc S256x256 32 [0] iota_S256x256_d0_w32 (ix2 i j)).toInt : ℝ) : EReal) = _
  rw [iota_single_apply]; rfl

/-- the column levels, -/
theorem k1_pay4_apply (i j : Fin 256) : k1_pay4 (F := Ideal) (ix2 i j) = lv j := by
  show (((iota .tc S256x256 32 [1] iota_S256x256_d1_w32 (ix2 i j)).toInt : ℝ) : EReal) = _
  rw [iota_single_apply]; rfl

/-- and their differences. -/
theorem k1_pay5_apply (i j : Fin 256) : k1_pay5 (F := Ideal) (ix2 i j) = gap i j :=
  congrArg₂ (fun a b : EReal => a - b) (k1_pay3_apply i j) (k1_pay4_apply i j)

section
variable (v : Vec Ideal S1x256x256 .f32)

theorem k1_pay6_eq : k1_pay6 v = contrast (prob (tab v)) := by
  unfold k1_pay6
  refine (total2 _).trans (congrArg sum2 (funext fun i => funext fun j => ?_))
  show k1_pay2 v (ix2 i j) * (k1_pay5 (F := Ideal) (ix2 i j) * k1_pay5 (F := Ideal) (ix2 i j)) = _
  rw [k1_pay2_apply, k1_pay5_apply]

theorem k1_pay7_eq : k1_pay7 v = dissim (prob (tab v)) := by
  unfold k1_pay7
  refine (total2 _).trans (congrArg sum2 (funext fun i => funext fun j => ?_))
  show k1_pay2 v (ix2 i j) * max (k1_pay5 (F := Ideal) (ix2 i j)) (-(k1_pay5 (F := Ideal) (ix2 i j))) = _
  rw [k1_pay2_apply, k1_pay5_apply]

theorem k1_pay8_eq : k1_pay8 v = homog (prob (tab v)) := by
  unfold k1_pay8
  refine (total2 _).trans (congrArg sum2 (funext fun i => funext fun j => ?_))
  show Ideal.div (k1_pay2 v (ix2 i j)) (one + k1_pay5 (F := Ideal) (ix2 i j) * k1_pay5 (F := Ideal) (ix2 i j)) = _
  rw [k1_pay2_apply, k1_pay5_apply]

theorem k1_pay9_eq : k1_pay9 v = energy (prob (tab v)) := by
  unfold k1_pay9
  refine congrArg Ideal.sqrt ((total2 _).trans (congrArg sum2 (funext fun i => funext fun j => ?_)))
  show k1_pay2 v (ix2 i j) * k1_pay2 v (ix2 i j) = _
  rw [k1_pay2_apply]

theorem k1_pay10_eq : k1_pay10 v = muRow (prob (tab v)) := by
  unfold k1_pay10
  refine (total2 _).trans (congrArg sum2 (funext fun i => funext fun j => ?_))
  show k1_pay2 v (ix2 i j) * k1_pay3 (F := Ideal) (ix2 i j) = _
  rw [k1_pay2_apply, k1_pay3_apply]

theorem k1_pay11_sum : (sum2 fun i j => k1_pay11 v (ix3 (0 : Fin 1) i j)) = muCol (prob (tab v)) := by
  refine congrArg sum2 (funext fun i => funext fun j => ?_)
  unfold k1_pay11
  refine (addUnit _ i j).trans ?_
  show k1_pay2 v (ix2 i j) * k1_pay4 (F := Ideal) (ix2 i j) = _
  rw [k1_pay2_apply, k1_pay4_apply]

end

end Cert.Glcm

end
-- ==== Proof.Stats.lean ====
/-
  What one grid point of the statistics call computes: the five quantised features of the table it reads.
-/
module

public import proofs.«01_k».proof.Proof.Totals

@[expose] public section

set_option maxRecDepth 16384

noncomputable section

namespace Cert.Glcm

open Idealize.ShloMosaic Idealize.ShloMosaic.ValueIdx Idealize.ShloMosaic.WordCmp
open Cert.KernelIdeal Cert.KernelIdeal.Gen

section
variable (v : Vec Ideal S1x256x256 .f32)

/-- The row levels less their mean, as a matrix. -/
def rows : FVec Ideal S256x256 .f32 := subf (F := Ideal) k1_pay3 (broadcast S256x256 (k1_pay10 v))

/-- The column levels less their mean, as a matrix. -/
def cols : FVec Ideal S256x256 .f32 := subf (F := Ideal) k1_pay4 (broadcast S256x256 (totalOf (k1_pay11 v)))

theorem rows_apply (i j : Fin 256) : rows v (ix2 i j) = devRow (prob (tab v)) i :=
  congrArg₂ (fun a b : EReal => a - b) (k1_pay3_apply i j) (k1_pay10_eq v)

theorem cols_apply (i j : Fin 256) : cols v (ix2 i j) = devCol (prob (tab v)) j :=
  congrArg₂ (fun a b : EReal => a - b) (k1_pay4_apply i j) ((total3 _).trans (k1_pay11_sum v))

/-- The total of the table times two matrices. -/
def moment (a b : FVec Ideal S256x256 .f32) : EReal :=
  totalOf (shapeCast S1x256x256 (mulf (F := Ideal) (mulf (k1_pay2 v) a) b) shapeCasts_S256x256_S1x256x256)

theorem moment_eq (a b : FVec Ideal S256x256 .f32) (f g : Fin 256 → Fin 256 → EReal)
    (ha : ∀ i j, a (ix2 i j) = f i j) (hb : ∀ i j, b (ix2 i j) = g i j) :
    moment v a b = sum2 fun i j => prob (tab v) i j * f i j * g i j := by
  refine (total2 _).trans (congrArg sum2 (funext fun i => funext fun j => ?_))
  exact congrArg₂ (fun c d : EReal => c * d)
    (congrArg₂ (fun c d : EReal => c * d) (k1_pay2_apply v i j) (ha i j)) (hb i j)

/-- The correlation as the kernel forms it. -/
theorem k1_pay12_moments :
    k1_pay12 (k1_pay2 v) k1_pay3 k1_pay4 (k1_pay10 v) (k1_pay11 v)
      = ratio (Ideal.sqrt (moment v (rows v) (rows v) * moment v (cols v) (cols v))) (moment v (rows v) (cols v)) := rfl

/-- The correlation. -/
theorem k1_pay12_eq :
    k1_pay12 (k1_pay2 v) k1_pay3 k1_pay4 (k1_pay10 v) (k1_pay11 v) = corr (prob (tab v)) := by
  rw [k1_pay12_moments, moment_eq v _ _ _ _ (rows_apply v) (rows_apply v),
    moment_eq v _ _ _ _ (cols_apply v) (cols_apply v), moment_eq v _ _ _ _ (rows_apply v) (cols_apply v)]
  rfl

/-- The table the statistics call reads, read through the whole rectangle. -/
theorem ld_whole (v : Vec Ideal S1x256x256 .f32) : View.ld v r1_0 = v :=
  View.ld_unit_zero (S := S1x256x256) offsets_zero _ v

/-- The lane a feature is written to. -/
theorem lane_word (l : Fin 128) (n : BitVec 32) :
    cmpi .eq (iota .tc S1x128 32 [1] iota_S1x128_d1_w32) (broadcast S1x128 n) (ix2 (0 : Fin 1) l)
      = BitVec.ofBool (decide (BitVec.ofNat 32 l.val = n)) := by
  show IntOp.cmpi .eq (iota .tc S1x128 32 [1] iota_S1x128_d1_w32 (ix2 (0 : Fin 1) l)) n = _
  rw [iota_single_apply, cmpi_eq_eq]

/-- The feature lane `l` of a statistics point's output holds: the lane's own, the last from lane 4 on. -/
def laneOf (l : Fin 128) : Fin 5 := ⟨min l.val 4, by omega⟩

/-- The choice among the five by the lane's number. -/
theorem lane_pick (p : Fin 256 → Fin 256 → EReal) (l : Fin 128) :
    Scalar.select (BitVec.ofBool (decide (BitVec.ofNat 32 l.val = 0#32))) (contrast p)
      (Scalar.select (BitVec.ofBool (decide (BitVec.ofNat 32 l.val = 1#32))) (dissim p)
        (Scalar.select (BitVec.ofBool (decide (BitVec.ofNat 32 l.val = 2#32))) (homog p)
          (Scalar.select (BitVec.ofBool (decide (BitVec.ofNat 32 l.val = 3#32))) (energy p) (corr p))))
      = feat p (laneOf l) := by
  match l with
  | ⟨0, _⟩ => rfl
  | ⟨1, _⟩ => rfl
  | ⟨2, _⟩ => rfl
  | ⟨3, _⟩ => rfl
  | ⟨n + 4, h⟩ =>
    have ne (a : Nat) (ha : a < 4) : ¬(BitVec.ofNat 32 (n + 4) = BitVec.ofNat 32 a) := by
      intro e
      have e' := congrArg BitVec.toNat e
      rw [BitVec.toNat_ofNat, BitVec.toNat_ofNat] at e'
      omega
    have e4 : laneOf ⟨n + 4, h⟩ = 4 := Fin.ext (by show min (n + 4) 4 = 4; omega)
    rw [e4]
    show Scalar.select (BitVec.ofBool (decide (BitVec.ofNat 32 (n + 4) = 0#32))) _ (Scalar.select (BitVec.ofBool (decide (BitVec.ofNat 32 (n + 4) = 1#32))) _
      (Scalar.select (BitVec.ofBool (decide (BitVec.ofNat 32 (n + 4) = 2#32))) _ (Scalar.select (BitVec.ofBool (decide (BitVec.ofNat 32 (n + 4) = 3#32))) _ _))) = _
    rw [decide_eq_false (ne 0 (by decide)), decide_eq_false (ne 1 (by decide)), decide_eq_false (ne 2 (by decide)),
      decide_eq_false (ne 3 (by decide))]
    rfl

/-- A statistics point leaves, in each lane of its output, the lane's feature of its table, quantised. -/
theorem out_stats (l : Fin 128) :
    out1_1 v (ix3 (0 : Fin 1) (0 : Fin 1) l) = quant (prob (tab v)) (laneOf l) := by
  unfold_out out1_1
  rw [View.canon_unit_zero offsets_zero, ld_whole]
  unfold k1_pay13 k1_pay14 k1_pay20 k1_pay19
  rw [k1_pay12_eq, k1_pay6_eq, k1_pay7_eq, k1_pay8_eq, k1_pay9_eq]
  unfold k1_pay1
  refine (shapeCast_apply _ _ _ (ix2 (0 : Fin 1) l) ?_).trans ?_
  · rw [Shape.rowMajor_val_three, Shape.rowMajor_val_two]
    show (0 * 128 + l.val : Nat) = (0 * 1 + 0) * 128 + l.val
    omega
  unfold quant
  refine congrArg (fun a : EReal => Ideal.div (Ideal.liftRound Int.floor
    (Ideal.div (a - least (prob (tab v))) (most (prob (tab v)) - least (prob (tab v))) * top)) top) ?_
  show Scalar.select (k1_pay15 (ix2 (0 : Fin 1) _)) (contrast (prob (tab v))) (Scalar.select (k1_pay16 (ix2 (0 : Fin 1) _)) (dissim (prob (tab v)))
    (Scalar.select (k1_pay17 (ix2 (0 : Fin 1) _)) (homog (prob (tab v))) (Scalar.select (k1_pay18 (ix2 (0 : Fin 1) _)) (energy (prob (tab v))) (corr (prob (tab v)))))) = _
  unfold k1_pay15 k1_pay16 k1_pay17 k1_pay18
  dsimp only
  rw [lane_word, lane_word, lane_word, lane_word]
  exact lane_pick (prob (tab v)) l

end

end Cert.Glcm

end
-- ==== Proof.StatsTable.lean ====
/-
  What the statistics call's result array holds when the call ends: in row `b` the quantised features of the table `b` of
  the array it was given. Every grid point writes its own block.
-/
module

public import proofs.«01_k».proof.Proof.Stats
public import proofs.«01_k».proof.Proof.Gen.KernelIdeal.Points

@[expose] public section

set_option maxRecDepth 16384

noncomputable section

namespace Cert.Glcm

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Both windows' blocks are those of the point's image. -/
theorem index1 (t : Fin cfg1.N) :
    (win1_0.index t 0 = t.val ∧ win1_0.index t 1 = 0 ∧ win1_0.index t 2 = 0)
      ∧ win1_1.index t 0 = t.val ∧ win1_1.index t 1 = 0 ∧ win1_1.index t 2 = 0 := by
  have ht : t.val < 64 := Nat.lt_of_lt_of_eq t.isLt N_1
  have e0 : (grid1.coords t 0).val = t.val / 1 % 64 := Pipeline.Grid.coords_val t 0 (by decide) rfl
  refine ⟨⟨?_, rfl, rfl⟩, ?_, rfl, rfl⟩
  · show (BitVec.ofNat 32 (grid1.coords t 0).val).toNat = _
    rw [BitVec.toNat_ofNat, e0]; omega
  · show (BitVec.ofNat 32 (grid1.coords t 0).val).toNat = _
    rw [BitVec.toNat_ofNat, e0]; omega

/-- The table a statistics point reads. -/
theorem block1_apply (c : Dev nD) (t : Fin cfg1.N) (b : Fin 64) (hb : b.val = t.val) (i j : Fin 256) :
    tab (iblk1 V c 0 t) i j = V c main_call0_v1 (ix3 b i j) := by
  obtain ⟨⟨e0, e1, e2⟩, -⟩ := index1 t
  unfold tab iblk1
  rw [View.read_apply]
  show V c main_call0_v1 _ = V c main_call0_v1 _
  congr 1
  funext a
  apply Fin.ext
  match a with
  | ⟨0, _⟩ => show win1_0.index t 0 * 1 + 1 * 0 = b.val; rw [e0]; omega
  | ⟨1, _⟩ => show win1_0.index t 1 * 256 + 1 * i.val = i.val; rw [e1]; omega
  | ⟨2, _⟩ => show win1_0.index t 2 * 256 + 1 * j.val = j.val; rw [e2]; omega

/-- The array of all images' quantised features, lane by lane. -/
def lanes (x : Img) : (⟨3, ![64, 1, 128]⟩ : Shape).Idx → EReal := fun i => answer x (i 0) (laneOf (i 2))

/-- What a statistics point writes back is its block of that array. -/
theorem flushed1 {c : Dev nD} {x : Img}
    (hx : ∀ (b : Fin 64) (i j : Fin 256), V c main_call0_v1 (ix3 b i j) = counts x b i j) (t : Fin cfg1.N) :
    (dat1 V c).flushed 1 t = ((cfg1.win 1).blk t).view.read (Elt Ideal) (lanes x) := by
  have ht : t.val < 64 := Nat.lt_of_lt_of_eq t.isLt N_1
  obtain ⟨-, e0, e1, e2⟩ := index1 t
  show (cfg1.win 1).cut (grid1.coords t) ((dat1 V c).after 1 t) = _
  rw [after1_1]
  funext y
  rw [View.read_apply]
  show out1_1 (iblk1 V c 0 t) y = lanes x _
  have y0 : (y 0 : Nat) < 1 := (y 0).isLt
  have y1 : (y 1 : Nat) < 1 := (y 1).isLt
  have ey : y = (ix3 (0 : Fin 1) (0 : Fin 1) (y 2 : Fin 128) : S1x1x128.Idx) := by
    refine (eq_ix3 (n0 := 1) (n1 := 1) (n2 := 128) y).trans ?_
    congr 1
    · exact Fin.ext (by show (y 0 : Nat) = 0; omega)
    · exact Fin.ext (by show (y 1 : Nat) = 0; omega)
  have et : tab (iblk1 V c 0 t) = counts x ⟨t.val, ht⟩ :=
    funext fun i => funext fun j => (block1_apply V c t ⟨t.val, ht⟩ rfl i j).trans (hx _ i j)
  refine (congrArg (out1_1 (iblk1 V c 0 t)) ey).trans ((out_stats (iblk1 V c 0 t) (y 2)).trans ?_)
  rw [et]
  refine congrArg (fun i => lanes x i)
    (a₁ := (ix3 (⟨t.val, ht⟩ : Fin 64) (0 : Fin 1) (y 2 : Fin 128) : (⟨3, ![64, 1, 128]⟩ : Shape).Idx)) ?_
  funext a
  apply Fin.ext
  match a with
  | ⟨0, _⟩ => show t.val = win1_1.index t 0 * 1 + 1 * (y 0 : Nat); rw [e0]; omega
  | ⟨1, _⟩ => show 0 = win1_1.index t 1 * 1 + 1 * (y 1 : Nat); rw [e1]; omega
  | ⟨2, _⟩ => show (y 2 : Nat) = win1_1.index t 2 * 128 + 1 * (y 2 : Nat); rw [e2]; omega

/-- So the statistics call's result array ends holding every image's quantised features. -/
theorem lanes_final {c : Dev nD} {x : Img}
    (hx : ∀ (b : Fin 64) (i j : Fin 256), V c main_call0_v1 (ix3 b i j) = counts x b i j) :
    (dat1 V c).arrAt 1 cfg1.N = lanes x :=
  (dat1 V c).arrAt_eq_of_cover 1 (lanes x) (fun t _ => flushed1 V hx t) fun i => by
    have h0 : (i 0 : Nat) < 64 := (i 0).isLt
    have h1 : (i 1 : Nat) < 1 := (i 1).isLt
    have h2 : (i 2 : Nat) < 128 := (i 2).isLt
    have hn : (i 0 : Nat) < cfg1.N := by rw [show cfg1.N = 64 from N_1]; omega
    obtain ⟨-, e0, e1, e2⟩ := index1 ⟨_, hn⟩
    dsimp only at e0
    refine ⟨⟨_, hn⟩, flush1_1 _, ?_⟩
    show i ∈ ((View.whole main_call0_v2).slice (win1_1.rect ⟨_, hn⟩)).set
    rw [View.set_slice_whole, Rect.mem_set_unit]
    intro a
    match a with
    | ⟨0, _⟩ =>
      show win1_1.index ⟨_, hn⟩ 0 * 1 ≤ (i 0 : Nat) ∧ (i 0 : Nat) < win1_1.index ⟨_, hn⟩ 0 * 1 + 1
      rw [e0]; omega
    | ⟨1, _⟩ =>
      show win1_1.index ⟨_, hn⟩ 1 * 1 ≤ (i 1 : Nat) ∧ (i 1 : Nat) < win1_1.index ⟨_, hn⟩ 1 * 1 + 1
      rw [e1]; omega
    | ⟨2, _⟩ =>
      show win1_1.index ⟨_, hn⟩ 2 * 128 ≤ (i 2 : Nat) ∧ (i 2 : Nat) < win1_1.index ⟨_, hn⟩ 2 * 128 + 128
      rw [e2]; omega

end Cert.Glcm

end
-- ==== Proof.KernelValue.lean ====
/-
  The kernel program's result array: from the flattening before the histogram call to the slice and the broadcasts after
  the statistics call, entry (b, channel, k) is the answer for image b and feature k.
-/
module

public import proofs.«01_k».proof.Proof.Table
public import proofs.«01_k».proof.Proof.StatsTable
public import proofs.«01_k».proof.Proof.KernelRun

@[expose] public section

set_option maxRecDepth 16384

noncomputable section

namespace Cert.Glcm

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-- The images as launched. -/
abbrev launched (c : Dev nD) : Img := m ((c : Thread nD τ).loc main_arg0)

/-- The flattening before the histogram call. -/
theorem entry_eq (c : Dev nD) :
    V1 m ρ c main_call0_v0 = shapeCast S64x3x262144 (launched m c) shapeCasts_S64x3x512x512_S64x3x262144 := by
  show StableHlo.after hostOps0 (W0 m ρ c) (Proc.devRef .tc main_call0_v0) = _
  after_results
  rfl

/-- So the histogram call finds the images flattened. -/
theorem entry_flat (c : Dev nD) : Flat (V1 m ρ) c (launched m c) := by
  intro b ch r k q hq
  rw [entry_eq]
  refine shapeCast_apply (launched m c) _ _ _ ?_
  rw [Shape.rowMajor_val_four, Shape.rowMajor_val_three]
  show (((b.val * 3 + ch.val) * 512 + r.val) * 512 + k.val : Nat) = (b.val * 3 + ch.val) * 262144 + q.val
  omega

/-- The statistics call finds the tables. -/
theorem entry_tables (c : Dev nD) (b : Fin 64) (i j : Fin 256) :
    V2 m ρ c main_call0_v1 (ix3 b i j) = counts (launched m c) b i j := by
  have e : V2 m ρ c main_call0_v1 = (dat0 (V1 m ρ) c).arrAt 1 cfg0.N := W2_arr m ρ c 1
  rw [e, tables_final (V1 m ρ) (entry_flat m ρ c)]
  rfl

/-- The last host stretch finds the quantised features. -/
theorem exit_lanes (c : Dev nD) : W3 m ρ c (Proc.devRef .tc main_call0_v2) = lanes (launched m c) :=
  (W3_arr m ρ c 1).trans (lanes_final (V2 m ρ) (entry_tables m ρ c))

/-- The last host stretch: a slice, a reshape and two broadcasts. -/
theorem tail_eq (c : Dev nD) :
    W4 m ρ c (Proc.devRef .tc main_v0)
      = broadcastInDim S64x3x5 ![0, 1, 2] bcast_S64x1x5_S64x3x5_0_1_2
          (broadcastInDim S64x1x5 ![0, 2] bcast_S64x5_S64x1x5_0_2
            (shapeCast S64x5
              (extractStridedSlice S64x1x5 ![0, 0, 0] (lanes (launched m c)) slices_S64x1x128_S64x1x5_0_0_0)
              shapeCasts_S64x1x5_S64x5)) := by
  rw [← exit_lanes m ρ c]
  show StableHlo.after hostOps2 (W3 m ρ c) (Proc.devRef .tc main_v0) = _
  after_results
  rfl

/-- The array both programs end with. -/
def result (x : Img) : (⟨3, ![64, 3, 5]⟩ : Shape).Idx → EReal := fun i => answer x (i 0) (i 2)

/-- The kernel's result array is the answer, the same for every channel. -/
theorem kernel_value (c : Dev nD) : W4 m ρ c (Proc.devRef .tc main_v0) = result (launched m c) := by
  rw [tail_eq]
  funext i
  obtain ⟨b, ch, k, rfl⟩ : ∃ (b : Fin 64) (ch : Fin 3) (k : Fin 5), i = ix3 b ch k :=
    ⟨i 0, i 1, i 2, eq_ix3 (n0 := 64) (n1 := 3) (n2 := 5) i⟩
  show _ = answer (launched m c) b k
  refine (broadcastInDim_apply _ _ _ _ (ix3 b (0 : Fin 1) k) (fun a => match a with | ⟨0, _⟩ => rfl | ⟨1, _⟩ => rfl | ⟨2, _⟩ => rfl)).trans ?_
  refine (broadcastInDim_apply _ _ _ _ (ix2 b k) (fun a => match a with | ⟨0, _⟩ => rfl | ⟨1, _⟩ => rfl)).trans ?_
  refine (shapeCast_apply _ _ _ (ix3 b (0 : Fin 1) k) ?_).trans ?_
  · rw [Shape.rowMajor_val_three, Shape.rowMajor_val_two]
    show ((b.val * 1 + 0) * 5 + k.val : Nat) = b.val * 5 + k.val
    omega
  refine (extractStridedSlice_apply _ _ _ _ (ix3 b (0 : Fin 1) (⟨k.val, by omega⟩ : Fin 128)) (fun a => match a with
    | ⟨0, _⟩ => by show b.val = 0 + b.val; omega
    | ⟨1, _⟩ => rfl
    | ⟨2, _⟩ => by show k.val = 0 + k.val; omega)).trans ?_
  show answer (launched m c) b (laneOf ⟨k.val, _⟩) = answer (launched m c) b k
  congr 1
  exact Fin.ext (by show min k.val 4 = k.val; omega)

end Cert.Glcm

end
-- ==== Proof.RefStats.lean ====
/-
  The reference's statistics: its symmetric normalised table, the five features of every image, their least and
  greatest, and the quantised result.
-/
module

public import proofs.«01_k».proof.Proof.RefTable
public import proofs.«01_k».proof.Proof.Features
public import proofs.«01_k».proof.Proof.KernelValue
public import Idealize.ShloMosaic.Lib.Pointwise.Reduce

@[expose] public section

set_option maxRecDepth 16384

noncomputable section

namespace Cert.Glcm

open Idealize.ShloMosaic Idealize.ShloMosaic.ValueIdx
open Cert.ReferenceIdeal Cert.ReferenceIdeal.Gen Cert.ReferenceIdeal.Read

/-- Image `b`'s normalised table. -/
def dist (x : Img) (b : Fin 64) : Fin 256 → Fin 256 → EReal := prob (counts x b)

/-- A sum over both level axes, for an array whose entries are known. -/
theorem ref_sum (y : FVec Ideal S64x256x256 .f32) (f : Fin 64 → Fin 256 → Fin 256 → EReal)
    (hy : ∀ i : S64x256x256.Idx, y i = f (i 0) (i 1) (i 2)) (j : S64.Idx) :
    Host.reduceAdd y (constant S_ .f32 0x00000000#32) reducesTo_S64x256x256_S64_d1_2 h_S_ j = sum2 (f (j 0)) := by
  refine (Ideal.hostReduceAdd_r3_a12 reducesTo_S64x256x256_S64_d1_2 y _ j).trans ?_
  refine (congrArg (· + _) Ideal.ofBits_zero_f32).trans ?_
  rw [zero_add]
  exact Finset.sum_congr rfl fun r _ => Finset.sum_congr rfl fun c _ => hy _

/-- The levels as numbers. -/
theorem ref_lv (i : S256.Idx) : val_main_v53 (F := Ideal) i = lv (i 0) := rfl

/-- The differences of levels. -/
theorem ref_gap (i : S256x256.Idx) : val_main_v58 (F := Ideal) i = gap (i 0) (i 1) := by
  rw [val_main_v58_apply, val_main_v56_apply, val_main_v54_apply, val_main_v57_apply, val_main_v55_apply, ref_lv, ref_lv]
  rfl

variable (x : Img)

/-- The table at any index. -/
theorem ref_table (i : S64x256x256.Idx) : val_main_v46 (F := Ideal) x i = counts x (i 0) (i 1) (i 2) :=
  (congrArg (val_main_v46 (F := Ideal) x) (ValueIdx.eq_ix3 i)).trans (ref_counts x (i 0) (i 1) (i 2))

/-- The symmetric table. -/
theorem ref_sym (i : S64x256x256.Idx) : val_main_v48 (F := Ideal) x i = sym (counts x (i 0)) (i 1) (i 2) := by
  rw [val_main_v48_apply, val_main_v47_apply, ref_table, ref_table]
  rfl

/-- Its total. -/
theorem ref_total (j : S64.Idx) : val_main_v49 (F := Ideal) x j = sum2 (sym (counts x (j 0))) :=
  ref_sum _ (fun b => sym (counts x b)) (ref_sym x) j

/-- The normalised table. -/
theorem ref_dist (i : S64x256x256.Idx) : val_main_v52 (F := Ideal) x i = dist x (i 0) (i 1) (i 2) := by
  rw [val_main_v52_apply, ref_sym, val_main_v51_apply, val_main_v50_apply, ref_total]
  rfl

/-- Contrast. -/
theorem ref_contrast (j : S64.Idx) : val_main_v63 (F := Ideal) x j = contrast (dist x (j 0)) := by
  refine ref_sum _ (fun b r c => dist x b r c * (gap r c * gap r c)) (fun i => ?_) j
  rw [val_main_v62_apply, ref_dist, val_main_v61_apply, val_main_v60_apply, val_main_v59_apply, ref_gap]
  rfl

/-- Dissimilarity. -/
theorem ref_dissim (j : S64.Idx) : val_main_v68 (F := Ideal) x j = dissim (dist x (j 0)) := by
  refine ref_sum _ (fun b r c => dist x b r c * max (gap r c) (-gap r c)) (fun i => ?_) j
  rw [val_main_v67_apply, ref_dist, val_main_v66_apply, val_main_v65_apply, val_main_v64_apply, ref_gap]
  rfl

/-- Homogeneity. -/
theorem ref_homog (j : S64.Idx) : val_main_v75 (F := Ideal) x j = homog (dist x (j 0)) := by
  refine ref_sum _ (fun b r c => Ideal.div (dist x b r c) (one + gap r c * gap r c)) (fun i => ?_) j
  rw [val_main_v74_apply, ref_dist, val_main_v73_apply, val_main_v72_apply, val_main_v71_apply, val_main_v70_apply,
    val_main_v69_apply, ref_gap]
  rfl

/-- Energy. -/
theorem ref_energy (j : S64.Idx) : val_main_v78 (F := Ideal) x j = energy (dist x (j 0)) := by
  rw [val_main_v78_apply]
  refine congrArg Ideal.sqrt (ref_sum _ (fun b r c => dist x b r c * dist x b r c) (fun i => ?_) j)
  rw [val_main_v76_apply, ref_dist]
  rfl

/-- The mean row level. -/
theorem ref_muRow (j : S64.Idx) : val_main_v82 (F := Ideal) x j = muRow (dist x (j 0)) := by
  refine ref_sum _ (fun b r c => dist x b r c * lv r) (fun i => ?_) j
  rw [val_main_v81_apply, ref_dist, val_main_v80_apply, val_main_v79_apply, ref_lv]
  rfl

/-- The mean column level. -/
theorem ref_muCol (j : S64.Idx) : val_main_v86 (F := Ideal) x j = muCol (dist x (j 0)) := by
  refine ref_sum _ (fun b r c => dist x b r c * lv c) (fun i => ?_) j
  rw [val_main_v85_apply, ref_dist, val_main_v84_apply, val_main_v83_apply, ref_lv]
  rfl

/-- The row levels' deviations. -/
theorem ref_devRow (i : S64x256x1.Idx) : val_main_v91 (F := Ideal) x i = devRow (dist x (i 0)) (i 1) := by
  rw [val_main_v91_apply, val_main_v89_apply, val_main_v87_apply, ref_lv, val_main_v90_apply, val_main_v88_apply,
    ref_muRow]
  rfl

/-- The column levels' deviations. -/
theorem ref_devCol (i : S64x1x256.Idx) : val_main_v96 (F := Ideal) x i = devCol (dist x (i 0)) (i 2) := by
  rw [val_main_v96_apply, val_main_v94_apply, val_main_v92_apply, ref_lv, val_main_v95_apply, val_main_v93_apply,
    ref_muCol]
  rfl

/-- The row levels' variance. -/
theorem ref_varRow (j : S64.Idx) : val_main_v101 (F := Ideal) x j = varRow (dist x (j 0)) := by
  refine ref_sum _ (fun b r c => dist x b r c * devRow (dist x b) r * devRow (dist x b) r) (fun i => ?_) j
  rw [val_main_v100_apply, val_main_v98_apply, ref_dist, val_main_v97_apply, val_main_v99_apply, ref_devRow]
  rfl

/-- The column levels' variance. -/
theorem ref_varCol (j : S64.Idx) : val_main_v106 (F := Ideal) x j = varCol (dist x (j 0)) := by
  refine ref_sum _ (fun b r c => dist x b r c * devCol (dist x b) c * devCol (dist x b) c) (fun i => ?_) j
  rw [val_main_v105_apply, val_main_v103_apply, ref_dist, val_main_v102_apply, val_main_v104_apply, ref_devCol]
  rfl

/-- The covariance. -/
theorem ref_cov (j : S64.Idx) : val_main_v111 (F := Ideal) x j = cov (dist x (j 0)) := by
  refine ref_sum _ (fun b r c => dist x b r c * devRow (dist x b) r * devCol (dist x b) c) (fun i => ?_) j
  rw [val_main_v110_apply, val_main_v108_apply, ref_dist, val_main_v107_apply, val_main_v109_apply, ref_devRow,
    ref_devCol]
  rfl

/-- The product of the standard deviations. -/
theorem ref_spread (j : S64.Idx) : val_main_v113 (F := Ideal) x j = spread (dist x (j 0)) := by
  rw [val_main_v113_apply, val_main_v112_apply, ref_varRow, ref_varCol]
  rfl

/-- Correlation. -/
theorem ref_corr (j : S64.Idx) : val_main_v119 (F := Ideal) x j = corr (dist x (j 0)) := by
  rw [val_main_v119_apply, val_main_v115_apply, val_main_v118_apply, val_main_v117_apply, ref_spread, ref_cov,
    val_main_call3_v1_apply, val_main_v114_apply, val_main_v116_apply]
  rfl

/-- Of five arrays in a row the `k`-th one's entry is the `k`-th of the five entries. -/
theorem pick_five {ι : Type} (f₀ f₁ f₂ f₃ f₄ : ι → EReal) (q : ι) (a₀ a₁ a₂ a₃ a₄ : EReal) (h₀ : f₀ q = a₀)
    (h₁ : f₁ q = a₁) (h₂ : f₂ q = a₂) (h₃ : f₃ q = a₃) (h₄ : f₄ q = a₄) (k : Fin 5) :
    (![f₀, f₁, f₂, f₃, f₄] : Fin 5 → ι → EReal) k q = (![a₀, a₁, a₂, a₃, a₄] : Fin 5 → EReal) k := by
  match k with
  | 0 => exact h₀
  | 1 => exact h₁
  | 2 => exact h₂
  | 3 => exact h₃
  | 4 => exact h₄

/-- The five features side by side. -/
theorem ref_feat (i : S64x5.Idx) : val_main_v125 (F := Ideal) x i = feat (dist x (i 0)) (i 1) := by
  unfold val_main_v125
  refine (concatenate_ofFn_unit_apply (s₁ := S64x1) 1
    (![val_main_v120 (F := Ideal) x, val_main_v121 (F := Ideal) x, val_main_v122 (F := Ideal) x,
      val_main_v123 (F := Ideal) x, val_main_v124 (F := Ideal) x] : Fin 5 → (S64x1.Idx → EReal))
    concatenates_S64x1_S64x1_S64x1_S64x1_S64x1_S64x5_d1 rfl rfl i (i 1) rfl (ValueIdx.ix2 (n0 := 64) (n1 := 1) (i 0) 0) ?_).trans ?_
  · intro a ha
    match a with
    | ⟨0, _⟩ => rfl
    | ⟨1, _⟩ => exact absurd rfl ha
  · exact pick_five _ _ _ _ _ (ValueIdx.ix2 (n0 := 64) (n1 := 1) (i 0) 0) _ _ _ _ _
      (by rw [val_main_v120_apply, ref_contrast]; rfl) (by rw [val_main_v121_apply, ref_dissim]; rfl)
      (by rw [val_main_v122_apply, ref_homog]; rfl) (by rw [val_main_v123_apply, ref_energy]; rfl)
      (by rw [val_main_v124_apply, ref_corr]; rfl) (i 1)

/-- The pattern of +∞. -/
theorem inf_bits : Ideal.ofBits .f32 0x7F800000#32 = (⊤ : EReal) := by
  simp [Ideal.ofBits, Ideal.ieee]

/-- The pattern of -∞. -/
theorem neg_inf_bits : Ideal.ofBits .f32 0xFF800000#32 = (⊥ : EReal) := by
  simp [Ideal.ofBits, Ideal.ieee]

/-- The minimum of five numbers, folded from +∞. -/
theorem fold_min (f : Fin 5 → EReal) :
    (Finset.univ : Finset (Fin 5)).fold min ⊤ f = min (min (min (f 0) (f 1)) (min (f 2) (f 3))) (f 4) := by
  rw [show (Finset.univ : Finset (Fin 5)) = {0, 1, 2, 3, 4} from rfl]
  simp [Finset.fold_insert, min_assoc]

/-- The maximum of five numbers, folded from -∞. -/
theorem fold_max (f : Fin 5 → EReal) :
    (Finset.univ : Finset (Fin 5)).fold max ⊥ f = max (max (max (f 0) (f 1)) (max (f 2) (f 3))) (f 4) := by
  rw [show (Finset.univ : Finset (Fin 5)) = {0, 1, 2, 3, 4} from rfl]
  simp [Finset.fold_insert, max_assoc]

/-- The least feature. -/
theorem ref_least (j : S64.Idx) : val_main_v126 (F := Ideal) x j = least (dist x (j 0)) := by
  refine (Host.reduce_eq_fold (min : EReal → EReal → EReal) (val_main_v125 (F := Ideal) x) (val_main_cst_27 (F := Ideal))
    reducesTo_S64x5_S64_d1 h_S_ j).trans ?_
  refine (Shape.ReducesTo.fold_fiber_r2_a1 reducesTo_S64x5_S64_d1 j _ _ _).trans ?_
  refine (congrArg (fun a => Finset.fold min a _ _) inf_bits).trans ((fold_min _).trans ?_)
  simp only [ref_feat]
  rfl

/-- The greatest feature. -/
theorem ref_most (j : S64.Idx) : val_main_v128 (F := Ideal) x j = most (dist x (j 0)) := by
  refine (Host.reduce_eq_fold (max : EReal → EReal → EReal) (val_main_v125 (F := Ideal) x) (val_main_cst_28 (F := Ideal))
    reducesTo_S64x5_S64_d1 h_S_ j).trans ?_
  refine (Shape.ReducesTo.fold_fiber_r2_a1 reducesTo_S64x5_S64_d1 j _ _ _).trans ?_
  refine (congrArg (fun a => Finset.fold max a _ _) neg_inf_bits).trans ((fold_max _).trans ?_)
  simp only [ref_feat]
  rfl

/-- The quantised features. -/
theorem ref_quant (i : S64x5.Idx) :
    val_main_v137 (F := Ideal) x i = Ideal.liftRound Int.floor (Ideal.div (feat (dist x (i 0)) (i 1) - least (dist x (i 0)))
      (most (dist x (i 0)) - least (dist x (i 0))) * top) := by
  rw [val_main_v137_apply, val_main_v136_apply, val_main_v134_apply, val_main_v131_apply, ref_feat, val_main_v130_apply,
    val_main_v133_apply, val_main_v132_apply, val_main_v129_apply, ref_most, val_main_v127_apply,
    ref_least, val_main_v135_apply]
  rfl

/-- The reference's result. -/
theorem reference_value : val_main_v141 (F := Ideal) x = result x := by
  funext i
  rw [val_main_v141_apply, val_main_v139_apply, val_main_v138_apply, ref_quant, val_main_v140_apply]
  rfl

end Cert.Glcm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefStats
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel as printed: it runs, its argument ends unchanged, every counter at zero. -/
theorem frame_k : Cert.quiescent_Kernel := fun m ρ _ => Cert.Kernel.Gen.frame m ρ

/-- The same of the kernel read over the extended reals. -/
theorem frame_ki : Cert.quiescent_KernelIdeal := fun m ρ _ => Cert.KernelIdeal.Gen.frame m ρ

/-- The reference runs and leaves its argument unchanged; it declares no semaphore, so every counter is zero. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From equal arguments the kernel and the reference, both read over the extended reals, end with the same result: the
    quantised texture features of every image. -/
theorem algebraic : Cert.algebraic_KernelIdeal_ReferenceIdeal := fun m g m' g' _ same =>
  ⟨fun c => Cert.Glcm.result (Cert.Glcm.launched m c),
    (θ_run Cert.KernelIdeal.defs _ _).mono
      (fun r h c => ⟨(h c).1.trans (Cert.Glcm.kernel_value m g c), (h c).2⟩)
      (Cert.KernelIdeal.Glcm.run (F := Ideal) m g),
    (θ_run Cert.ReferenceIdeal.defs _ _).mono
      (fun r h c => ⟨(h c).1.trans ((Cert.ReferenceIdeal.Read.val_main_v141_eq (StableHlo.launchContents m' c)).trans
        ((Cert.Glcm.reference_value _).trans (congrArg Cert.Glcm.result (same c)))), (h c).2⟩)
      (Cert.ReferenceIdeal.Value.run (F := Ideal) m' g')⟩

/-- The whole claim. -/
theorem claim : Cert.Claim := ⟨Cert.Kernel.Gen.facts, Cert.KernelIdeal.Gen.facts, Cert.ReferenceIdeal.Gen.facts,
  frame_k, frame_ki, frame_ri, trivial, algebraic⟩

end Cert.Proof

end
